-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts.lean ====
abbrev S36864x2048 : Shape := ⟨2, ![36864, 2048]⟩
abbrev S2048 : Shape := ⟨1, ![2048]⟩
abbrev S16x2048x5632 : Shape := ⟨3, ![16, 2048, 5632]⟩
abbrev S16x5632x2048 : Shape := ⟨3, ![16, 5632, 2048]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x2048 .f32) (main_arg1 : FVec F S2048 .f32) (main_arg2 : FVec F S16x2048x5632 .f32) (main_arg3 : FVec F S16x2048x5632 .f32) (main_arg4 : FVec F S16x5632x2048 .f32) (main_arg5 : IVec S72 32) (main_arg6 : IVec S1 32) : IVec S72 1 :=
  let main_c : IVec S_ 32 := constantI S_ 32 0#32
  let main_v0 : IVec S72 32 := broadcastInDim S72 ![] bcast_S_S72 main_c
  let main_v1 : IVec S72 1 := cmpi .sge main_arg5 main_v0
  let main_c_0 : IVec S_ 32 := constantI S_ 32 16#32
  let main_v2 : IVec S72 32 := broadcastInDim S72 ![] bcast_S_S72 main_c_0
  let main_v3 : IVec S72 1 := cmpi .slt main_arg5 main_v2
  let main_v4 : IVec S72 1 := andi main_v1 main_v3
  main_v4
-- ==== Pre_finite.lean ====
abbrev S16384x4x64 : Shape := ⟨3, ![16384, 4, 64]⟩
abbrev S16384x4x128 : Shape := ⟨3, ![16384, 4, 128]⟩
abbrev S64 : Shape := ⟨1, ![64]⟩
abbrev S1 : Shape := ⟨1, ![1]⟩
abbrev S128 : Shape := ⟨1, ![128]⟩
abbrev S_ : Shape := ⟨0, ![]⟩

class Facts : Prop where
  bcast_S_S16384x4x64 : S_.BroadcastsInDim S16384x4x64 (![] : Fin 0 → Fin S16384x4x64.rank)
  bcast_S_S16384x4x128 : S_.BroadcastsInDim S16384x4x128 (![] : Fin 0 → Fin S16384x4x128.rank)
  bcast_S_S64 : S_.BroadcastsInDim S64 (![] : Fin 0 → Fin S64.rank)
  bcast_S_S1 : S_.BroadcastsInDim S1 (![] : Fin 0 → Fin S1.rank)

variable [Facts]

def fn_part1 {F : FTy → Type} [FloatOps F] (main_arg6 : FVec F S64 .f32) (main_arg7 : FVec F S64 .f32) (main_arg8 : FVec F S64 .f32) (main_arg9 : FVec F S1 .f32) (main_v2 : IVec S16384x4x64 1) (main_v5 : IVec S16384x4x64 1) (main_v8 : IVec S16384x4x64 1) (main_v11 : IVec S16384x4x64 1) (main_v14 : IVec S16384x4x128 1) (main_v17 : IVec S64 1) : IVec S16384x4x64 1 × IVec S16384x4x64 1 × IVec S16384x4x64 1 × IVec S16384x4x64 1 × IVec S16384x4x128 1 × IVec S64 1 × IVec S64 1 × IVec S64 1 × IVec S64 1 × IVec S1 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S1 .f32 := Host.absf main_arg9
  let main_cst_8 : FVec F S_ .f32 := constant S_ .f32 0x7F800000#32
  let main_v28 : FVec F S1 .f32 := broadcastInDim S1 ![] bcast_S_S1 main_cst_8
  let main_v29 : IVec S1 1 := cmpf .olt main_v27 main_v28
  (main_v2, main_v5, main_v8, main_v11, main_v14, main_v17, main_v20, main_v23, main_v26, main_v29)

def fn {F : FTy → Type} [FloatOps F] (main_arg0 : FVec F S16384x4x64 .f32) (main_arg1 : FVec F S16384x4x64 .f32) (main_arg2 : FVec F S16384x4x64 .f32) (main_arg3 : FVec F S16384x4x64 .f32) (main_arg4 : FVec F S16384x4x128 .f32) (main_arg5 : FVec F S64 .f32) (main_arg6 : FVec F S64 .f32) (main_arg7 : FVec F S64 .f32) (main_arg8 : FVec F S64 .f32) (main_arg9 : FVec F S1 .f32) (main_arg10 : FVec F S128 .f32) : IVec S16384x4x64 1 × IVec S16384x4x64 1 × IVec S16384x4x64 1 × IVec S16384x4x64 1 × IVec S16384x4x128 1 × IVec S64 1 × IVec S64 1 × IVec S64 1 × IVec S64 1 × IVec S1 1 :=
  let main_v0 : FVec F S16384x4x64 .f32 := Host.absf main_arg0
  let main_cst : FVec F S_ .f32 := constant S_ .f32 0x7F800000#32
  let main_v1 : FVec F S16384x4x64 .f32 := broadcastInDim S16384x4x64 ![] bcast_S_S16384x4x64 main_cst
  let main_v2 : IVec S16384x4x64 1 := cmpf .olt main_v0 main_v1
  let main_v3 : FVec F S16384x4x64 .f32 := Host.absf main_arg1
  let main_cst_0 : FVec F S_ .f32 := constant S_ .f32 0x7F800000#32
  let main_v4 : FVec F S16384x4x64 .f32 := broadcastInDim S16384x4x64 ![] bcast_S_S16384x4x64 main_cst_0
  let main_v5 : IVec S16384x4x64 1 := cmpf .olt main_v3 main_v4
  let main_v6 : FVec F S16384x4x64 .f32 := Host.absf main_arg2
  let main_cst_1 : FVec F S_ .f32 := constant S_ .f32 0x7F800000#32
  let main_v7 : FVec F S16384x4x64 .f32 := broadcastInDim S16384x4x64 ![] bcast_S_S16384x4x64 main_cst_1
  let main_v8 : IVec S16384x4x64 1 := cmpf .olt main_v6 main_v7
  let main_v9 : FVec F S16384x4x64 .f32 := Host.absf main_arg3
  let main_cst_2 : FVec F S_ .f32 := constant S_ .f32 0x7F800000#32
  let main_v10 : FVec F S16384x4x64 .f32 := broadcastInDim S16384x4x64 ![] bcast_S_S16384x4x64 main_cst_2
  let main_v11 : IVec S16384x4x64 1 := cmpf .olt main_v9 main_v10
  let main_v12 : FVec F S16384x4x128 .f32 := Host.absf main_arg4
  let main_cst_3 : FVec F S_ .f32 := constant S_ .f32 0x7F800000#32
  let main_v13 : FVec F S16384x4x128 .f32 := broadcastInDim S16384x4x128 ![] bcast_S_S16384x4x128 main_cst_3
  let main_v14 : IVec S16384x4x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_arg9 main_v2 main_v5 main_v8 main_v11 main_v14 main_v17
-- ==== Kernel.lean ====
abbrev S16384x4x64 : Shape := ⟨3, ![16384, 4, 64]⟩
abbrev S16384x4x128 : Shape := ⟨3, ![16384, 4, 128]⟩
abbrev S64 : Shape := ⟨1, ![64]⟩
abbrev S1 : Shape := ⟨1, ![1]⟩
abbrev S128 : Shape := ⟨1, ![128]⟩
abbrev S_ : Shape := ⟨0, ![]⟩
abbrev S4 : Shape := ⟨1, ![4]⟩
abbrev S4x2 : Shape := ⟨2, ![4, 2]⟩
abbrev S8 : Shape := ⟨1, ![8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S4x2x1 : Shape := ⟨3, ![4, 2, 1]⟩
abbrev S1x1x512 : Shape := ⟨3, ![1, 1, 512]⟩
abbrev S4x2x512 : Shape := ⟨3, ![4, 2, 512]⟩
abbrev S4x2x512x1 : Shape := ⟨4, ![4, 2, 512, 1]⟩
abbrev S4x2x512x3 : Shape := ⟨4, ![4, 2, 512, 3]⟩
abbrev S4x512x2x3 : Shape := ⟨4, ![4, 512, 2, 3]⟩
abbrev S4x512x6 : Shape := ⟨3, ![4, 512, 6]⟩
abbrev S4x512x128 : Shape := ⟨3, ![4, 512, 128]⟩
abbrev S1024x128 : Shape := ⟨2, ![1024, 128]⟩
abbrev S4x16384x128 : Shape := ⟨3, ![4, 16384, 128]⟩
abbrev S12x16384x128 : Shape := ⟨3, ![12, 16384, 128]⟩
abbrev S40x16384x128 : Shape := ⟨3, ![40, 16384, 128]⟩
abbrev S8x128 : Shape := ⟨2, ![8, 128]⟩
abbrev S1x64 : Shape := ⟨2, ![1, 64]⟩
abbrev S4x64 : Shape := ⟨2, ![4, 64]⟩
abbrev S2 : Shape := ⟨1, ![2]⟩
abbrev S1x128 : Shape := ⟨2, ![1, 128]⟩
abbrev S1x512x128 : Shape := ⟨3, ![1, 512, 128]⟩
abbrev S1x16384x128 : Shape := ⟨3, ![1, 16384, 128]⟩
abbrev S1024x256 : Shape := ⟨2, ![1024, 256]⟩
abbrev S512x128 : Shape := ⟨2, ![512, 128]⟩
abbrev S512x256 : Shape := ⟨2, ![512, 256]⟩
abbrev S1024x512 : Shape := ⟨2, ![1024, 512]⟩
abbrev S1x1 : Shape := ⟨2, ![1, 1]⟩
abbrev S1x1x128 : Shape := ⟨3, ![1, 1, 128]⟩
abbrev S1x1x1 : Shape := ⟨3, ![1, 1, 1]⟩

abbrev nBuf : Space → Nat
  | .hbm => 135
  | .vmem => 17
  | .smem => 1
  | _ => 0

abbrev hbmTy0_0 (i : Nat) : BufTy := match i % 128 with
  | 0 => ⟨S16384x4x64, .f32⟩
  | 1 => ⟨S16384x4x64, .f32⟩
  | 2 => ⟨S16384x4x64, .f32⟩
  | 3 => ⟨S16384x4x64, .f32⟩
  | 4 => ⟨S16384x4x128, .f32⟩
  | 5 => ⟨S64, .f32⟩
  | 6 => ⟨S64, .f32⟩
  | 7 => ⟨S64, .f32⟩
  | 8 => ⟨S64, .f32⟩
  | 9 => ⟨S1, .f32⟩
  | 10 => ⟨S128, .f32⟩
  | 11 => ⟨S_, .f32⟩
  | 12 => ⟨S_, .f32⟩
  | 13 => ⟨S_, .f32⟩
  | 14 => ⟨S_, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S4x2, .f32⟩
  | 30 => ⟨S8, .f32⟩
  | 31 => ⟨S8, .f32⟩
  | 32 => ⟨S8, .f32⟩
  | 33 => ⟨S512, .i32⟩
  | 34 => ⟨S512x1, .i32⟩
  | 35 => ⟨S512, .i32⟩
  | 36 => ⟨S1x512, .i32⟩
  | 37 => ⟨S512x512, .i32⟩
  | 38 => ⟨S512x512, .i32⟩
  | 39 => ⟨S512x512, .i32⟩
  | 40 => ⟨S_, .i32⟩
  | 41 => ⟨S512x512, .i32⟩
  | 42 => ⟨S512x512, .i1⟩
  | 43 => ⟨S_, .f32⟩
  | 44 => ⟨S_, .f32⟩
  | 45 => ⟨S512x512, .f32⟩
  | 46 => ⟨S512x512, .f32⟩
  | 47 => ⟨S512x512, .f32⟩
  | 48 => ⟨S512x512, .f32⟩
  | 49 => ⟨S1x512x512, .f32⟩
  | 50 => ⟨S512, .i32⟩
  | 51 => ⟨S4x2x1, .f32⟩
  | 52 => ⟨S512, .f32⟩
  | 53 => ⟨S1x1x512, .f32⟩
  | 54 => ⟨S4x2x512, .f32⟩
  | 55 => ⟨S4x2x512, .f32⟩
  | 56 => ⟨S4x2x512, .f32⟩
  | 57 => ⟨S4x2x512, .bf16⟩
  | 58 => ⟨S4x2x512, .f32⟩
  | 59 => ⟨S4x2x512, .f32⟩
  | 60 => ⟨S4x2x512, .bf16⟩
  | 61 => ⟨S4x2x512, .f32⟩
  | 62 => ⟨S4x2x512, .f32⟩
  | 63 => ⟨S4x2x512, .bf16⟩
  | 64 => ⟨S4x2x512x1, .bf16⟩
  | 65 => ⟨S4x2x512x1, .bf16⟩
  | 66 => ⟨S4x2x512x1, .bf16⟩
  | 67 => ⟨S4x2x512x3, .bf16⟩
  | 68 => ⟨S4x512x2x3, .bf16⟩
  | 69 => ⟨S4x512x6, .bf16⟩
  | 70 => ⟨S_, .i32⟩
  | 71 => ⟨S_, .bf16⟩
  | 72 => ⟨S4x512x128, .bf16⟩
  | 73 => ⟨S1024x128, .i32⟩
  | 74 => ⟨S1024x128, .i32⟩
  | 75 => ⟨S_, .i32⟩
  | 76 => ⟨S1024x128, .i32⟩
  | 77 => ⟨S1024x128, .i1⟩
  | 78 => ⟨S_, .i32⟩
  | 79 => ⟨S1024x128, .i32⟩
  | 80 => ⟨S1024x128, .i1⟩
  | 81 => ⟨S1024x128, .i1⟩
  | 82 => ⟨S_, .i32⟩
  | 83 => ⟨S1024x128, .i32⟩
  | 84 => ⟨S1024x128, .i1⟩
  | 85 => ⟨S_, .i32⟩
  | 86 => ⟨S1024x128, .i32⟩
  | 87 => ⟨S1024x128, .i1⟩
  | 88 => ⟨S1024x128, .i1⟩
  | 89 => ⟨S_, .i32⟩
  | 90 => ⟨S1024x128, .i32⟩
  | 91 => ⟨S1024x128, .i1⟩
  | 92 => ⟨S1024x128, .i1⟩
  | 93 => ⟨S1024x128, .i1⟩
  | 94 => ⟨S_, .f32⟩
  | 95 => ⟨S_, .f32⟩
  | 96 => ⟨S1024x128, .f32⟩
  | 97 => ⟨S1024x128, .f32⟩
  | 98 => ⟨S1024x128, .f32⟩
  | 99 => ⟨S1024x128, .bf16⟩
  | 100 => ⟨S16384x4x128, .f32⟩
  | 101 => ⟨S_, .f32⟩
  | 102 => ⟨S16384x4x128, .f32⟩
  | 103 => ⟨S16384x4x128, .f32⟩
  | 104 => ⟨S16384x4x128, .f32⟩
  | 105 => ⟨S16384x4x128, .f32⟩
  | 106 => ⟨S16384x4x128, .f32⟩
  | 107 => ⟨S4x16384x128, .f32⟩
  | 108 => ⟨S4x16384x128, .f32⟩
  | 109 => ⟨S4x16384x128, .f32⟩
  | 110 => ⟨S12x16384x128, .f32⟩
  | 111 => ⟨S_, .i32⟩
  | 112 => ⟨S_, .f32⟩
  | 113 => ⟨S40x16384x128, .f32⟩
  | 114 => ⟨S40x16384x128, .bf16⟩
  | 115 => ⟨S_, .f32⟩
  | 116 => ⟨S8x128, .f32⟩
  | 117 => ⟨S1x64, .f32⟩
  | 118 => ⟨S1x64, .f32⟩
  | 119 => ⟨S1x64, .f32⟩
  | 120 => ⟨S1x64, .f32⟩
  | 121 => ⟨S4x64, .f32⟩
  | 122 => ⟨S_, .i32⟩
  | 123 => ⟨S1, .i32⟩
  | 124 => ⟨S_, .i32⟩
  | 125 => ⟨S1, .i32⟩
  | 126 => ⟨S2, .i32⟩
  | 127 => ⟨S8x128, .f32⟩
  | _ => ⟨S16384x4x64, .f32⟩

abbrev hbmTy0_1 (i : Nat) : BufTy := match i % 128 with
  | 0 => ⟨S_, .f32⟩
  | 1 => ⟨S_, .i32⟩
  | 2 => ⟨S1, .i32⟩
  | 3 => ⟨S128, .f32⟩
  | 4 => ⟨S8x128, .f32⟩
  | 5 => ⟨S1x128, .f32⟩
  | 6 => ⟨S4x16384x128, .bf16⟩
  | _ => ⟨S16384x4x64, .f32⟩

abbrev hbmTy (i : Nat) : BufTy := match i / 128 with
  | 0 => hbmTy0_0 i
  | 1 => hbmTy0_1 i
  | _ => ⟨S16384x4x64, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x512x512, .f32⟩
  | .local _ .vmem, ⟨7, _⟩ => ⟨S8x128, .f32⟩
  | .local _ .vmem, ⟨8, _⟩ => ⟨S1x128, .f32⟩
  | .local _ .vmem, ⟨9, _⟩ => ⟨S1x512x128, .bf16⟩
  | .local _ .vmem, ⟨10, _⟩ => ⟨S1x512x128, .bf16⟩
  | .local _ .vmem, ⟨11, _⟩ => ⟨S1024x128, .bf16⟩
  | .local _ .vmem, ⟨12, _⟩ => ⟨S1x512x128, .bf16⟩
  | .local _ .vmem, ⟨13, _⟩ => ⟨S1x512x128, .bf16⟩
  | .local _ .vmem, ⟨14, _⟩ => ⟨S1024x256, .bf16⟩
  | .local _ .vmem, ⟨15, _⟩ => ⟨S1024x128, .f32⟩
  | .local _ .vmem, ⟨16, _⟩ => ⟨S1024x256, .f32⟩
  | .local _ .smem, ⟨0, _⟩ => ⟨S8, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_call3_v0 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_19 : BitVec 32 := 1#32
  ⟨c0_i32_17, v35, c1_i32_19⟩
def k0_mult1 (i : grid0.Coords) (k0_t1 : Fin (k0_t1_loop i).trips) : BitVec 32 :=
  let c0_i32_59 : BitVec 32 := 0#32
  let c8_i32_58 : BitVec 32 := 8#32
  let c0_i32_17 : BitVec 32 := 0#32
  let c1_i32_19 : BitVec 32 := 1#32
  let arg15 : BitVec 32 := Scf.iv c0_i32_17 c1_i32_19 k0_t1
  let v120 : BitVec 32 := Scalar.muli c8_i32_58 arg15
  let v121 : BitVec 32 := Scalar.addi c0_i32_59 v120
  let c0_i32_60 : BitVec 32 := 0#32
  let v122 : BitVec 32 := Scalar.addi v121 c0_i32_60
  let c512_i32 : BitVec 32 := 512#32
  let v123 : BitVec 32 := Scalar.muli v122 c512_i32
  v123
def k0_off1 (i : grid0.Coords) (k0_t1 : Fin (k0_t1_loop i).trips) (c0_i32_60 : BitVec 32) : Fin 3 → Nat :=
  let c0_61 : Index := 0#32
  let c0_i32_59 : BitVec 32 := 0#32
  let c8_i32_58 : BitVec 32 := 8#32
  let c0_i32_17 : BitVec 32 := 0#32
  let c1_i32_19 : BitVec 32 := 1#32
  let arg15 : BitVec 32 := Scf.iv c0_i32_17 c1_i32_19 k0_t1
  let v120 : BitVec 32 := Scalar.muli c8_i32_58 arg15
  let v121 : BitVec 32 := Scalar.addi c0_i32_59 v120
  let v122 : BitVec 32 := Scalar.addi v121 c0_i32_60
  let c512_i32 : BitVec 32 := 512#32
  let v123 : BitVec 32 := Scalar.muli v122 c512_i32
  let v124 : BitVec 32 := v123
  let v125 : Index := Scalar.indexCast v124
  let c0_62 : Index := 0#32
  ![0, v125.toNat, 0]
def k0_off2 (i : grid0.Coords) (c0_i32_75 : BitVec 32) : Fin 1 → Nat :=
  let arg0 : BitVec 32 := BitVec.ofNat 32 (i 0).val
  let c1_i32_72 : BitVec 32 := 1#32
  let v144 : BitVec 32 := Scalar.muli arg0 c1_i32_72
  let c0_i32_73 : BitVec 32 := 0#32
  let v145 : BitVec 32 := Scalar.addi v144 c0_i32_73
  let c2_i32_74 : BitVec 32 := 2#32
  let v146 : BitVec 32 := Scalar.muli v145 c2_i32_74
  let v147 : BitVec 32 := Scalar.addi v146 c0_i32_75
  let v148 : Index := Scalar.indexCast v147
  ![v148.toNat]
def k0_mult2 (i : grid0.Coords) (k0_t1 : Fin (k0_t1_loop i).trips) : BitVec 32 :=
  let c0_i32_95 : BitVec 32 := 0#32
  let c8_i32_94 : BitVec 32 := 8#32
  let c0_i32_17 : BitVec 32 := 0#32
  let c1_i32_19 : BitVec 32 := 1#32
  let arg15 : BitVec 32 := Scf.iv c0_i32_17 c1_i32_19 k0_t1
  let v206 : BitVec 32 := Scalar.muli c8_i32_94 arg15
  let v207 : BitVec 32 := Scalar.addi c0_i32_95 v206
  let c1_i32_96 : BitVec 32 := 1#32
  let v208 : BitVec 32 := Scalar.addi v207 c1_i32_96
  let c512_i32_97 : BitVec 32 := 512#32
  let v209 : BitVec 32 := Scalar.muli v208 c512_i32_97
  v209
def k0_mult3 (i : grid0.Coords) (k0_t1 : Fin (k0_t1_loop i).trips) : BitVec 32 :=
  let c0_i32_133 : BitVec 32 := 0#32
  let c8_i32_132 : BitVec 32 := 8#32
  let c0_i32_17 : BitVec 32 := 0#32
  let c1_i32_19 : BitVec 32 := 1#32
  let arg15 : BitVec 32 := Scf.iv c0_i32_17 c1_i32_19 k0_t1
  let v292 : BitVec 32 := Scalar.muli c8_i32_132 arg15
  let v293 : BitVec 32 := Scalar.addi c0_i32_133 v292
  let c2_i32_134 : BitVec 32 := 2#32
  let v294 : BitVec 32 := Scalar.addi v293 c2_i32_134
  let c512_i32_135 : BitVec 32 := 512#32
  let v295 : BitVec 32 := Scalar.muli v294 c512_i32_135
  v295
def k0_mult4 (i : grid0.Coords) (k0_t1 : Fin (k0_t1_loop i).trips) : BitVec 32 :=
  let c0_i32_171 : BitVec 32 := 0#32
  let c8_i32_170 : BitVec 32 := 8#32
  let c0_i32_17 : BitVec 32 := 0#32
  let c1_i32_19 : BitVec 32 := 1#32
  let arg15 : BitVec 32 := Scf.iv c0_i32_17 c1_i32_19 k0_t1
  let v378 : BitVec 32 := Scalar.muli c8_i32_170 arg15
  let v379 : BitVec 32 := Scalar.addi c0_i32_171 v378
  let c3_i32_172 : BitVec 32 := 3#32
  let v380 : BitVec 32 := Scalar.addi v379 c3_i32_172
  let c512_i32_173 : BitVec 32 := 512#32
  let v381 : BitVec 32 := Scalar.muli v380 c512_i32_173
  v381
def k0_mult5 (i : grid0.Coords) (k0_t1 : Fin (k0_t1_loop i).trips) : BitVec 32 :=
  let c0_i32_209 : BitVec 32 := 0#32
  let c8_i32_208 : BitVec 32 := 8#32
  let c0_i32_17 : BitVec 32 := 0#32
  let c1_i32_19 : BitVec 32 := 1#32
  let arg15 : BitVec 32 := Scf.iv c0_i32_17 c1_i32_19 k0_t1
  let v464 : BitVec 32 := Scalar.muli c8_i32_208 arg15
  let v465 : BitVec 32 := Scalar.addi c0_i32_209 v464
  let c4_i32_210 : BitVec 32 := 4#32
  let v466 : BitVec 32 := Scalar.addi v465 c4_i32_210
  let c512_i32_211 : BitVec 32 := 512#32
  let v467 : BitVec 32 := Scalar.muli v466 c512_i32_211
  v467
def k0_mult6 (i : grid0.Coords) (k0_t1 : Fin (k0_t1_loop i).trips) : BitVec 32 :=
  let c0_i32_247 : BitVec 32 := 0#32
  let c8_i32_246 : BitVec 32 := 8#32
  let c0_i32_17 : BitVec 32 := 0#32
  let c1_i32_19 : BitVec 32 := 1#32
  let arg15 : BitVec 32 := Scf.iv c0_i32_17 c1_i32_19 k0_t1
  let v550 : BitVec 32 := Scalar.muli c8_i32_246 arg15
  let v551 : BitVec 32 := Scalar.addi c0_i32_247 v550
  let c5_i32 : BitVec 32 := 5#32
  let v552 : BitVec 32 := Scalar.addi v551 c5_i32
  let c512_i32_248 : BitVec 32 := 512#32
  let v553 : BitVec 32 := Scalar.muli v552 c512_i32_248
  v553
def k0_mult7 (i : grid0.Coords) (k0_t1 : Fin (k0_t1_loop i).trips) : BitVec 32 :=
  let c0_i32_284 : BitVec 32 := 0#32
  let c8_i32_283 : BitVec 32 := 8#32
  let c0_i32_17 : BitVec 32 := 0#32
  let c1_i32_19 : BitVec 32 := 1#32
  let arg15 : BitVec 32 := Scf.iv c0_i32_17 c1_i32_19 k0_t1
  let v636 : BitVec 32 := Scalar.muli c8_i32_283 arg15
  let v637 : BitVec 32 := Scalar.addi c0_i32_284 v636
  let c6_i32 : BitVec 32 := 6#32
  let v638 : BitVec 32 := Scalar.addi v637 c6_i32
  let c512_i32_285 : BitVec 32 := 512#32
  let v639 : BitVec 32 := Scalar.muli v638 c512_i32_285
  v639
def k0_mult8 (i : grid0.Coords) (k0_t1 : Fin (k0_t1_loop i).trips) : BitVec 32 :=
  let c0_i32_321 : BitVec 32 := 0#32
  let c8_i32_320 : BitVec 32 := 8#32
  let c0_i32_17 : BitVec 32 := 0#32
  let c1_i32_19 : BitVec 32 := 1#32
  let arg15 : BitVec 32 := Scf.iv c0_i32_17 c1_i32_19 k0_t1
  let v722 : BitVec 32 := Scalar.muli c8_i32_320 arg15
  let v723 : BitVec 32 := Scalar.addi c0_i32_321 v722
  let c7_i32 : BitVec 32 := 7#32
  let v724 : BitVec 32 := Scalar.addi v723 c7_i32
  let c512_i32_322 : BitVec 32 := 512#32
  let v725 : BitVec 32 := Scalar.muli v724 c512_i32_322
  v725
@[reducible] def k0_t2_loop (i : grid0.Coords) : Scf.Loop 32 :=
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let v32 : BitVec 32 := Scalar.addi c0_i32_17 v31
  let c1_i32_20 : BitVec 32 := 1#32
  ⟨v35, v32, c1_i32_20⟩
def k0_mult9 (i : grid0.Coords) (k0_t2 : Fin (k0_t2_loop i).trips) : BitVec 32 :=
  let c0_i32_59 : BitVec 32 := 0#32
  let c8_i32_58 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v120 : BitVec 32 := Scalar.muli c8_i32_58 arg15
  let v121 : BitVec 32 := Scalar.addi c0_i32_59 v120
  let c0_i32_60 : BitVec 32 := 0#32
  let v122 : BitVec 32 := Scalar.addi v121 c0_i32_60
  let c512_i32 : BitVec 32 := 512#32
  let v123 : BitVec 32 := Scalar.muli v122 c512_i32
  v123
def k0_off3 (i : grid0.Coords) (k0_t2 : Fin (k0_t2_loop i).trips) (c0_i32_60 : BitVec 32) : Fin 3 → Nat :=
  let c0_61 : Index := 0#32
  let c0_i32_59 : BitVec 32 := 0#32
  let c8_i32_58 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v120 : BitVec 32 := Scalar.muli c8_i32_58 arg15
  let v121 : BitVec 32 := Scalar.addi c0_i32_59 v120
  let v122 : BitVec 32 := Scalar.addi v121 c0_i32_60
  let c512_i32 : BitVec 32 := 512#32
  let v123 : BitVec 32 := Scalar.muli v122 c512_i32
  let v124 : BitVec 32 := v123
  let v125 : Index := Scalar.indexCast v124
  let c0_62 : Index := 0#32
  ![0, v125.toNat, 0]
def k0_off4 (i : grid0.Coords) (c0_i32_75 : BitVec 32) : Fin 1 → Nat :=
  let arg0 : BitVec 32 := BitVec.ofNat 32 (i 0).val
  let c1_i32_72 : BitVec 32 := 1#32
  let v144 : BitVec 32 := Scalar.muli arg0 c1_i32_72
  let c0_i32_73 : BitVec 32 := 0#32
  let v145 : BitVec 32 := Scalar.addi v144 c0_i32_73
  let c2_i32_74 : BitVec 32 := 2#32
  let v146 : BitVec 32 := Scalar.muli v145 c2_i32_74
  let v147 : BitVec 32 := Scalar.addi v146 c0_i32_75
  let v148 : Index := Scalar.indexCast v147
  ![v148.toNat]
def k0_mult10 (i : grid0.Coords) (k0_t2 : Fin (k0_t2_loop i).trips) : BitVec 32 :=
  let c0_i32_95 : BitVec 32 := 0#32
  let c8_i32_94 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v206 : BitVec 32 := Scalar.muli c8_i32_94 arg15
  let v207 : BitVec 32 := Scalar.addi c0_i32_95 v206
  let c1_i32_96 : BitVec 32 := 1#32
  let v208 : BitVec 32 := Scalar.addi v207 c1_i32_96
  let c512_i32_97 : BitVec 32 := 512#32
  let v209 : BitVec 32 := Scalar.muli v208 c512_i32_97
  v209
def k0_mult11 (i : grid0.Coords) (k0_t2 : Fin (k0_t2_loop i).trips) : BitVec 32 :=
  let c0_i32_133 : BitVec 32 := 0#32
  let c8_i32_132 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v292 : BitVec 32 := Scalar.muli c8_i32_132 arg15
  let v293 : BitVec 32 := Scalar.addi c0_i32_133 v292
  let c2_i32_134 : BitVec 32 := 2#32
  let v294 : BitVec 32 := Scalar.addi v293 c2_i32_134
  let c512_i32_135 : BitVec 32 := 512#32
  let v295 : BitVec 32 := Scalar.muli v294 c512_i32_135
  v295
def k0_mult12 (i : grid0.Coords) (k0_t2 : Fin (k0_t2_loop i).trips) : BitVec 32 :=
  let c0_i32_171 : BitVec 32 := 0#32
  let c8_i32_170 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v378 : BitVec 32 := Scalar.muli c8_i32_170 arg15
  let v379 : BitVec 32 := Scalar.addi c0_i32_171 v378
  let c3_i32_172 : BitVec 32 := 3#32
  let v380 : BitVec 32 := Scalar.addi v379 c3_i32_172
  let c512_i32_173 : BitVec 32 := 512#32
  let v381 : BitVec 32 := Scalar.muli v380 c512_i32_173
  v381
def k0_mult13 (i : grid0.Coords) (k0_t2 : Fin (k0_t2_loop i).trips) : BitVec 32 :=
  let c0_i32_209 : BitVec 32 := 0#32
  let c8_i32_208 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v464 : BitVec 32 := Scalar.muli c8_i32_208 arg15
  let v465 : BitVec 32 := Scalar.addi c0_i32_209 v464
  let c4_i32_210 : BitVec 32 := 4#32
  let v466 : BitVec 32 := Scalar.addi v465 c4_i32_210
  let c512_i32_211 : BitVec 32 := 512#32
  let v467 : BitVec 32 := Scalar.muli v466 c512_i32_211
  v467
def k0_mult14 (i : grid0.Coords) (k0_t2 : Fin (k0_t2_loop i).trips) : BitVec 32 :=
  let c0_i32_247 : BitVec 32 := 0#32
  let c8_i32_246 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v550 : BitVec 32 := Scalar.muli c8_i32_246 arg15
  let v551 : BitVec 32 := Scalar.addi c0_i32_247 v550
  let c5_i32 : BitVec 32 := 5#32
  let v552 : BitVec 32 := Scalar.addi v551 c5_i32
  let c512_i32_248 : BitVec 32 := 512#32
  let v553 : BitVec 32 := Scalar.muli v552 c512_i32_248
  v553
def k0_mult15 (i : grid0.Coords) (k0_t2 : Fin (k0_t2_loop i).trips) : BitVec 32 :=
  let c0_i32_284 : BitVec 32 := 0#32
  let c8_i32_283 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v636 : BitVec 32 := Scalar.muli c8_i32_283 arg15
  let v637 : BitVec 32 := Scalar.addi c0_i32_284 v636
  let c6_i32 : BitVec 32 := 6#32
  let v638 : BitVec 32 := Scalar.addi v637 c6_i32
  let c512_i32_285 : BitVec 32 := 512#32
  let v639 : BitVec 32 := Scalar.muli v638 c512_i32_285
  v639
def k0_mult16 (i : grid0.Coords) (k0_t2 : Fin (k0_t2_loop i).trips) : BitVec 32 :=
  let c0_i32_321 : BitVec 32 := 0#32
  let c8_i32_320 : BitVec 32 := 8#32
  let c0_i32_17 : BitVec 32 := 0#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v31 : BitVec 32 := Scalar.subi v30 c0_i32_17
  let c1_i32_18 : BitVec 32 := 1#32
  let v33 : BitVec 32 := Scalar.divsi v31 c1_i32_18
  let v34 : BitVec 32 := Scalar.muli v33 c1_i32_18
  let v35 : BitVec 32 := Scalar.addi c0_i32_17 v34
  let c1_i32_20 : BitVec 32 := 1#32
  let arg15 : BitVec 32 := Scf.iv v35 c1_i32_20 k0_t2
  let v722 : BitVec 32 := Scalar.muli c8_i32_320 arg15
  let v723 : BitVec 32 := Scalar.addi c0_i32_321 v722
  let c7_i32 : BitVec 32 := 7#32
  let v724 : BitVec 32 := Scalar.addi v723 c7_i32
  let c512_i32_322 : BitVec 32 := 512#32
  let v725 : BitVec 32 := Scalar.muli v724 c512_i32_322
  v725
def k0_cond1 (i : grid0.Coords) : BitVec 1 :=
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_22 : BitVec 32 := 0#32
  let v38 : BitVec 32 := Scalar.subi v28 c0_i32_22
  let c4_i32 : BitVec 32 := 4#32
  let v39 : BitVec 32 := Scalar.andi v38 c4_i32
  let c0_i32_23 : BitVec 32 := 0#32
  let v40 : BitVec 1 := Scalar.cmpi .ne v39 c0_i32_23
  let v41 : BitVec 32 := Scalar.extui v40
  let c0_i32_24 : BitVec 32 := 0#32
  let v42 : BitVec 1 := Scalar.cmpi .ne v41 c0_i32_24
  v42

def k0_mult17 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_58 : BitVec 32 := 0#32
  let v120 : BitVec 32 := Scalar.addi v37 c0_i32_58
  let c512_i32 : BitVec 32 := 512#32
  let v121 : BitVec 32 := Scalar.muli v120 c512_i32
  v121
def k0_off5 (i : grid0.Coords) (c0_i32_58 : BitVec 32) : Fin 3 → Nat :=
  let c0_59 : Index := 0#32
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let v120 : BitVec 32 := Scalar.addi v37 c0_i32_58
  let c512_i32 : BitVec 32 := 512#32
  let v121 : BitVec 32 := Scalar.muli v120 c512_i32
  let v122 : BitVec 32 := v121
  let v123 : Index := Scalar.indexCast v122
  let c0_60 : Index := 0#32
  ![0, v123.toNat, 0]
def k0_off6 (i : grid0.Coords) (c0_i32_73 : BitVec 32) : Fin 1 → Nat :=
  let arg0 : BitVec 32 := BitVec.ofNat 32 (i 0).val
  let c1_i32_70 : BitVec 32 := 1#32
  let v138 : BitVec 32 := Scalar.muli arg0 c1_i32_70
  let c0_i32_71 : BitVec 32 := 0#32
  let v139 : BitVec 32 := Scalar.addi v138 c0_i32_71
  let c2_i32_72 : BitVec 32 := 2#32
  let v140 : BitVec 32 := Scalar.muli v139 c2_i32_72
  let v141 : BitVec 32 := Scalar.addi v140 c0_i32_73
  let v142 : Index := Scalar.indexCast v141
  ![v142.toNat]
def k0_mult18 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c1_i32_92 : BitVec 32 := 1#32
  let v200 : BitVec 32 := Scalar.addi v37 c1_i32_92
  let c512_i32_93 : BitVec 32 := 512#32
  let v201 : BitVec 32 := Scalar.muli v200 c512_i32_93
  v201
def k0_mult19 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c2_i32_128 : BitVec 32 := 2#32
  let v280 : BitVec 32 := Scalar.addi v37 c2_i32_128
  let c512_i32_129 : BitVec 32 := 512#32
  let v281 : BitVec 32 := Scalar.muli v280 c512_i32_129
  v281
def k0_mult20 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c3_i32_164 : BitVec 32 := 3#32
  let v360 : BitVec 32 := Scalar.addi v37 c3_i32_164
  let c512_i32_165 : BitVec 32 := 512#32
  let v361 : BitVec 32 := Scalar.muli v360 c512_i32_165
  v361
def k0_cond2 (i : grid0.Coords) : BitVec 1 :=
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_27 : BitVec 32 := 0#32
  let v46 : BitVec 32 := Scalar.subi v28 c0_i32_27
  let c2_i32 : BitVec 32 := 2#32
  let v47 : BitVec 32 := Scalar.andi v46 c2_i32
  let c0_i32_28 : BitVec 32 := 0#32
  let v48 : BitVec 1 := Scalar.cmpi .ne v47 c0_i32_28
  let v49 : BitVec 32 := Scalar.extui v48
  let c0_i32_29 : BitVec 32 := 0#32
  let v50 : BitVec 1 := Scalar.cmpi .ne v49 c0_i32_29
  v50

def k0_mult21 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_25 : BitVec 32 := 0#32
  let v43 : BitVec 32 := Scalar.subi v28 c0_i32_25
  let c4_i32_26 : BitVec 32 := 4#32
  let v44 : BitVec 32 := Scalar.andi v43 c4_i32_26
  let v45 : BitVec 32 := Scalar.addi v37 v44
  let c0_i32_58 : BitVec 32 := 0#32
  let v120 : BitVec 32 := Scalar.addi v45 c0_i32_58
  let c512_i32 : BitVec 32 := 512#32
  let v121 : BitVec 32 := Scalar.muli v120 c512_i32
  v121
def k0_off7 (i : grid0.Coords) (c0_i32_58 : BitVec 32) : Fin 3 → Nat :=
  let c0_59 : Index := 0#32
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_25 : BitVec 32 := 0#32
  let v43 : BitVec 32 := Scalar.subi v28 c0_i32_25
  let c4_i32_26 : BitVec 32 := 4#32
  let v44 : BitVec 32 := Scalar.andi v43 c4_i32_26
  let v45 : BitVec 32 := Scalar.addi v37 v44
  let v120 : BitVec 32 := Scalar.addi v45 c0_i32_58
  let c512_i32 : BitVec 32 := 512#32
  let v121 : BitVec 32 := Scalar.muli v120 c512_i32
  let v122 : BitVec 32 := v121
  let v123 : Index := Scalar.indexCast v122
  let c0_60 : Index := 0#32
  ![0, v123.toNat, 0]
def k0_off8 (i : grid0.Coords) (c0_i32_73 : BitVec 32) : Fin 1 → Nat :=
  let arg0 : BitVec 32 := BitVec.ofNat 32 (i 0).val
  let c1_i32_70 : BitVec 32 := 1#32
  let v138 : BitVec 32 := Scalar.muli arg0 c1_i32_70
  let c0_i32_71 : BitVec 32 := 0#32
  let v139 : BitVec 32 := Scalar.addi v138 c0_i32_71
  let c2_i32_72 : BitVec 32 := 2#32
  let v140 : BitVec 32 := Scalar.muli v139 c2_i32_72
  let v141 : BitVec 32 := Scalar.addi v140 c0_i32_73
  let v142 : Index := Scalar.indexCast v141
  ![v142.toNat]
def k0_mult22 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_25 : BitVec 32 := 0#32
  let v43 : BitVec 32 := Scalar.subi v28 c0_i32_25
  let c4_i32_26 : BitVec 32 := 4#32
  let v44 : BitVec 32 := Scalar.andi v43 c4_i32_26
  let v45 : BitVec 32 := Scalar.addi v37 v44
  let c1_i32_92 : BitVec 32 := 1#32
  let v200 : BitVec 32 := Scalar.addi v45 c1_i32_92
  let c512_i32_93 : BitVec 32 := 512#32
  let v201 : BitVec 32 := Scalar.muli v200 c512_i32_93
  v201
def k0_cond3 (i : grid0.Coords) : BitVec 1 :=
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_32 : BitVec 32 := 0#32
  let v54 : BitVec 32 := Scalar.subi v28 c0_i32_32
  let c1_i32_33 : BitVec 32 := 1#32
  let v55 : BitVec 32 := Scalar.andi v54 c1_i32_33
  let c0_i32_34 : BitVec 32 := 0#32
  let v56 : BitVec 1 := Scalar.cmpi .ne v55 c0_i32_34
  let v57 : BitVec 32 := Scalar.extui v56
  let c0_i32_35 : BitVec 32 := 0#32
  let v58 : BitVec 1 := Scalar.cmpi .ne v57 c0_i32_35
  v58

def k0_mult23 (i : grid0.Coords) : BitVec 32 :=
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_25 : BitVec 32 := 0#32
  let v43 : BitVec 32 := Scalar.subi v28 c0_i32_25
  let c4_i32_26 : BitVec 32 := 4#32
  let v44 : BitVec 32 := Scalar.andi v43 c4_i32_26
  let v45 : BitVec 32 := Scalar.addi v37 v44
  let c0_i32_30 : BitVec 32 := 0#32
  let v51 : BitVec 32 := Scalar.subi v28 c0_i32_30
  let c2_i32_31 : BitVec 32 := 2#32
  let v52 : BitVec 32 := Scalar.andi v51 c2_i32_31
  let v53 : BitVec 32 := Scalar.addi v45 v52
  let c0_i32_58 : BitVec 32 := 0#32
  let v120 : BitVec 32 := Scalar.addi v53 c0_i32_58
  let c512_i32 : BitVec 32 := 512#32
  let v121 : BitVec 32 := Scalar.muli v120 c512_i32
  v121
def k0_off9 (i : grid0.Coords) : Fin 3 → Nat :=
  let c0_59 : Index := 0#32
  let c0_i32_21 : BitVec 32 := 0#32
  let c8_i32 : BitVec 32 := 8#32
  let arg1 : BitVec 32 := BitVec.ofNat 32 (i 1).val
  let c1_i32 : BitVec 32 := 1#32
  let v26 : BitVec 32 := Scalar.subi arg1 c1_i32
  let c1_i32_14 : BitVec 32 := 1#32
  let v27 : BitVec 32 := Scalar.addi v26 c1_i32_14
  let c0_i32 : BitVec 32 := 0#32
  let v28 : BitVec 32 := Scalar.maxsi v27 c0_i32
  let c0_i32_15 : BitVec 32 := 0#32
  let v29 : BitVec 32 := Scalar.subi v28 c0_i32_15
  let c3_i32 : BitVec 32 := 3#32
  let v30 : BitVec 32 := Scalar.shrsi v29 c3_i32
  let v36 : BitVec 32 := Scalar.muli c8_i32 v30
  let v37 : BitVec 32 := Scalar.addi c0_i32_21 v36
  let c0_i32_25 : BitVec 32 := 0#32
  let v43 : BitVec 32 := Scalar.subi v28 c0_i32_25
  let c4_i32_26 : BitVec 32 := 4#32
  let v44 : BitVec 32 := Scalar.andi v43 c4_i32_26
  let v45 : BitVec 32 := Scalar.addi v37 v44
  let c0_i32_30 : BitVec 32 := 0#32
  let v51 : BitVec 32 := Scalar.subi v28 c0_i32_30
  let c2_i32_31 : BitVec 32 := 2#32
  let v52 : BitVec 32 := Scalar.andi v51 c2_i32_31
  let v53 : BitVec 32 := Scalar.addi v45 v52
  let c0_i32_58 : BitVec 32 := 0#32
  let v120 : BitVec 32 := Scalar.addi v53 c0_i32_58
  let c512_i32 : BitVec 32 := 512#32
  let v121 : BitVec 32 := Scalar.muli v120 c512_i32
  let v122 : BitVec 32 := v121
  let v123 : Index := Scalar.indexCast v122
  let c0_60 : Index := 0#32
  ![0, v123.toNat, 0]
def k0_off10 (i : grid0.Coords) (c0_i32_73 : BitVec 32) : Fin 1 → Nat :=
  let arg0 : BitVec 32 := BitVec.ofNat 32 (i 0).val
  let c1_i32_70 : BitVec 32 := 1#32
  let v138 : BitVec 32 := Scalar.muli arg0 c1_i32_70
  let c0_i32_71 : BitVec 32 := 0#32
  let v139 : BitVec 32 := Scalar.addi v138 c0_i32_71
  let c2_i32_72 : BitVec 32 := 2#32
  let v140 : BitVec 32 := Scalar.muli v139 c2_i32_72
  let v141 : BitVec 32 := Scalar.addi v140 c0_i32_73
  let v142 : Index := Scalar.indexCast v141
  ![v142.toNat]
def k0_cond4 (i : grid0.Coords) : BitVec 1 :=
  let arg1 : BitVec 32 := BitVec.ofNat 32 (i 1).val
  let c0_i32_36 : BitVec 32 := 0#32
  let v59 : BitVec 32 := Scalar.subi arg1 c0_i32_36
  let c0_i32_37 : BitVec 32 := 0#32
  let v60 : BitVec 1 := Scalar.cmpi .sge v59 c0_i32_37
  let v61 : BitVec 32 := Scalar.extui v60
  let c0_i32_38 : BitVec 32 := 0#32
  let v62 : BitVec 1 := Scalar.cmpi .ne v61 c0_i32_38
  v62

def k0_mult24 (i : grid0.Coords) : BitVec 32 :=
  let arg1 : BitVec 32 := BitVec.ofNat 32 (i 1).val
  let c0_i32_58 : BitVec 32 := 0#32
  let v120 : BitVec 32 := Scalar.subi arg1 c0_i32_58
  let c512_i32 : BitVec 32 := 512#32
  let v121 : BitVec 32 := Scalar.muli v120 c512_i32
  v121
def k0_off11 (i : grid0.Coords) : Fin 3 → Nat :=
  let c0_59 : Index := 0#32
  let arg1 : BitVec 32 := BitVec.ofNat 32 (i 1).val
  let c0_i32_58 : BitVec 32 := 0#32
  let v120 : BitVec 32 := Scalar.subi arg1 c0_i32_58
  let c512_i32 : BitVec 32 := 512#32
  let v121 : BitVec 32 := Scalar.muli v120 c512_i32
  let v122 : BitVec 32 := v121
  let v123 : Index := Scalar.indexCast v122
  let c0_60 : Index := 0#32
  ![0, v123.toNat, 0]
def k0_off12 (i : grid0.Coords) (c0_i32_73 : BitVec 32) : Fin 1 → Nat :=
  let arg0 : BitVec 32 := BitVec.ofNat 32 (i 0).val
  let c1_i32_70 : BitVec 32 := 1#32
  let v138 : BitVec 32 := Scalar.muli arg0 c1_i32_70
  let c0_i32_71 : BitVec 32 := 0#32
  let v139 : BitVec 32 := Scalar.addi v138 c0_i32_71
  let c2_i32_72 : BitVec 32 := 2#32
  let v140 : BitVec 32 := Scalar.muli v139 c2_i32_72
  let v141 : BitVec 32 := Scalar.addi v140 c0_i32_73
  let v142 : Index := Scalar.indexCast v141
  ![v142.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x4x64 : Shape := ⟨3, ![16384, 4, 64]⟩
abbrev S16384x4x128 : Shape := ⟨3, ![16384, 4, 128]⟩
abbrev S64 : Shape := ⟨1, ![64]⟩
abbrev S1 : Shape := ⟨1, ![1]⟩
abbrev S128 : Shape := ⟨1, ![128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S4 : Shape := ⟨1, ![4]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S4x16384 : Shape := ⟨2, ![4, 16384]⟩
abbrev S4x16384x1 : Shape := ⟨3, ![4, 16384, 1]⟩
abbrev S4x16384x128 : Shape := ⟨3, ![4, 16384, 128]⟩
abbrev S1x1x128 : Shape := ⟨3, ![1, 1, 128]⟩

abbrev nBuf : Space → Nat
  | .hbm => 136
  | .vmem => 0
  | .smem => 0
  | _ => 0

abbrev hbmTy0_0 (i : Nat) : BufTy := match i % 128 with
  | 0 => ⟨S16384x4x64, .f32⟩
  | 1 => ⟨S16384x4x64, .f32⟩
  | 2 => ⟨S16384x4x64, .f32⟩
  | 3 => ⟨S16384x4x64, .f32⟩
  | 4 => ⟨S16384x4x128, .f32⟩
  | 5 => ⟨S64, .f32⟩
  | 6 => ⟨S64, .f32⟩
  | 7 => ⟨S64, .f32⟩
  | 8 => ⟨S64, .f32⟩
  | 9 => ⟨S1, .f32⟩
  | 10 => ⟨S128, .f32⟩
  | 11 => ⟨S64, .f32⟩
  | 12 => ⟨S_, .f32⟩
  | 13 => ⟨S_, .f32⟩
  | 14 => ⟨S_, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S16384, .i32⟩
  | 23 => ⟨S16384x1, .i32⟩
  | 24 => ⟨S16384, .i32⟩
  | 25 => ⟨S1x16384, .i32⟩
  | 26 => ⟨S16384x16384, .i32⟩
  | 27 => ⟨S16384x16384, .i32⟩
  | 28 => ⟨S16384x16384, .i32⟩
  | 29 => ⟨S_, .i32⟩
  | 30 => ⟨S16384x16384, .i32⟩
  | 31 => ⟨S16384x16384, .i1⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S4x1x1, .f32⟩
  | 47 => ⟨S16384x16384, .f32⟩
  | 48 => ⟨S1x16384x16384, .f32⟩
  | 49 => ⟨S4x16384x16384, .f32⟩
  | 50 => ⟨S4x16384x16384, .f32⟩
  | 51 => ⟨S4x16384x16384, .f32⟩
  | 52 => ⟨S4x16384x16384, .f32⟩
  | 53 => ⟨S_, .f32⟩
  | 54 => ⟨S4x16384x16384, .f32⟩
  | 55 => ⟨S4x16384x16384, .f32⟩
  | 56 => ⟨S4x16384x16384, .f32⟩
  | 57 => ⟨S_, .f32⟩
  | 58 => ⟨S_, .f32⟩
  | 59 => ⟨S4x16384x16384, .i1⟩
  | 60 => ⟨S4x16384x16384, .f32⟩
  | 61 => ⟨S4x16384x16384, .f32⟩
  | 62 => ⟨S_, .f32⟩
  | 63 => ⟨S4x16384, .f32⟩
  | 64 => ⟨S4x16384x1, .f32⟩
  | 65 => ⟨S4x16384x16384, .f32⟩
  | 66 => ⟨S4x16384x16384, .f32⟩
  | 67 => ⟨S4x16384x16384, .f32⟩
  | 68 => ⟨S_, .f32⟩
  | 69 => ⟨S_, .f32⟩
  | 70 => ⟨S4x16384x16384, .i1⟩
  | 71 => ⟨S4x16384x16384, .f32⟩
  | 72 => ⟨S4x16384x16384, .f32⟩
  | 73 => ⟨S_, .f32⟩
  | 74 => ⟨S4x16384, .f32⟩
  | 75 => ⟨S4x16384x1, .f32⟩
  | 76 => ⟨S_, .f32⟩
  | 77 => ⟨S4x16384x1, .f32⟩
  | 78 => ⟨S4x16384x1, .f32⟩
  | 79 => ⟨S4x16384x16384, .f32⟩
  | 80 => ⟨S4x16384x16384, .f32⟩
  | 81 => ⟨S4x16384x16384, .f32⟩
  | 82 => ⟨S_, .f32⟩
  | 83 => ⟨S4x16384x16384, .f32⟩
  | 84 => ⟨S4x16384x16384, .f32⟩
  | 85 => ⟨S4x16384x16384, .f32⟩
  | 86 => ⟨S_, .f32⟩
  | 87 => ⟨S_, .f32⟩
  | 88 => ⟨S4x16384x16384, .i1⟩
  | 89 => ⟨S4x16384x16384, .f32⟩
  | 90 => ⟨S4x16384x16384, .f32⟩
  | 91 => ⟨S_, .f32⟩
  | 92 => ⟨S4x16384, .f32⟩
  | 93 => ⟨S4x16384x1, .f32⟩
  | 94 => ⟨S4x16384x16384, .f32⟩
  | 95 => ⟨S4x16384x16384, .f32⟩
  | 96 => ⟨S4x16384x16384, .f32⟩
  | 97 => ⟨S_, .f32⟩
  | 98 => ⟨S_, .f32⟩
  | 99 => ⟨S4x16384x16384, .i1⟩
  | 100 => ⟨S4x16384x16384, .f32⟩
  | 101 => ⟨S4x16384x16384, .f32⟩
  | 102 => ⟨S_, .f32⟩
  | 103 => ⟨S4x16384, .f32⟩
  | 104 => ⟨S4x16384x1, .f32⟩
  | 105 => ⟨S_, .f32⟩
  | 106 => ⟨S4x16384x1, .f32⟩
  | 107 => ⟨S4x16384x1, .f32⟩
  | 108 => ⟨S4x16384x16384, .f32⟩
  | 109 => ⟨S4x16384x16384, .f32⟩
  | 110 => ⟨S4x16384x16384, .f32⟩
  | 111 => ⟨S4x16384x16384, .f32⟩
  | 112 => ⟨S4x16384x16384, .f32⟩
  | 113 => ⟨S4x16384x128, .f32⟩
  | 114 => ⟨S4x16384x128, .f32⟩
  | 115 => ⟨S_, .f32⟩
  | 116 => ⟨S4x16384, .f32⟩
  | 117 => ⟨S4x16384x1, .f32⟩
  | 118 => ⟨S_, .f32⟩
  | 119 => ⟨S4x16384x1, .f32⟩
  | 120 => ⟨S4x16384x1, .f32⟩
  | 121 => ⟨S_, .f32⟩
  | 122 => ⟨S4x16384x1, .f32⟩
  | 123 => ⟨S4x16384x1, .f32⟩
  | 124 => ⟨S4x16384x1, .f32⟩
  | 125 => ⟨S4x16384x128, .f32⟩
  | 126 => ⟨S4x16384x128, .f32⟩
  | 127 => ⟨S1x1x128, .f32⟩
  | _ => ⟨S16384x4x64, .f32⟩

abbrev hbmTy0_1 (i : Nat) : BufTy := match i % 128 with
  | 0 => ⟨S4x16384x128, .f32⟩
  | 1 => ⟨S4x16384x128, .f32⟩
  | 2 => ⟨S_, .f32⟩
  | 3 => ⟨S_, .f32⟩
  | 4 => ⟨S_, .f32⟩
  | 5 => ⟨S4x16384x128, .f32⟩
  | 6 => ⟨S4x16384x128, .f32⟩
  | 7 => ⟨S4x16384x128, .bf16⟩
  | _ => ⟨S16384x4x64, .f32⟩

abbrev hbmTy (i : Nat) : BufTy := match i / 128 with
  | 0 => hbmTy0_0 i
  | 1 => hbmTy0_1 i
  | _ => ⟨S16384x4x64, .f32⟩

abbrev bufTy : (tb : Table) → Fin (tcTables nBuf tb) → BufTy
  | .hbm, ⟨i, _⟩ => hbmTy i
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_17 : Ref sig .tc := ⟨.hbm, 115, rfl⟩
abbrev main_v73 : Ref sig .tc := ⟨.hbm, 116, rfl⟩
abbrev main_v74 : Ref sig .tc := ⟨.hbm, 117, rfl⟩
abbrev main_cst_18 : Ref sig .tc := ⟨.hbm, 118, rfl⟩
abbrev main_v75 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_20 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩

abbrev nD : Nat := 1
abbrev τ : Topo := Topo.v7x

variable {F : FTy → Type} [FloatOps F]
-- ==== Kernel2.lean ====
abbrev S36864x2048 : Shape := ⟨2, ![36864, 2048]⟩
abbrev S2048 : Shape := ⟨1, ![2048]⟩
abbrev S16x2048x5632 : Shape := ⟨3, ![16, 2048, 5632]⟩
abbrev S16x5632x2048 : Shape := ⟨3, ![16, 5632, 2048]⟩
abbrev S72 : Shape := ⟨1, ![72]⟩
abbrev S1 : Shape := ⟨1, ![1]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 10
  | .vmem => 13
  | .smem => 2
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x2048x5632, .f32⟩
  | .hbm, ⟨3, _⟩ => ⟨S16x2048x5632, .f32⟩
  | .hbm, ⟨4, _⟩ => ⟨S16x5632x2048, .f32⟩
  | .hbm, ⟨5, _⟩ => ⟨S16x2048x5632, .bf16⟩
  | .hbm, ⟨6, _⟩ => ⟨S16x2048x5632, .bf16⟩
  | .hbm, ⟨7, _⟩ => ⟨S16x5632x2048, .bf16⟩
  | .hbm, ⟨8, _⟩ => ⟨S1x2048, .f32⟩
  | .hbm, ⟨9, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_21 : BitVec 32 := 0#32
  let v32 : BitVec 1 := Scalar.cmpi .ne v31 c0_i32_21
  v32

def k0_cond4 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S36864x2048 : Shape := ⟨2, ![36864, 2048]⟩
abbrev S2048 : Shape := ⟨1, ![2048]⟩
abbrev S16x2048x5632 : Shape := ⟨3, ![16, 2048, 5632]⟩
abbrev S16x5632x2048 : Shape := ⟨3, ![16, 5632, 2048]⟩
abbrev S72 : Shape := ⟨1, ![72]⟩
abbrev S1 : Shape := ⟨1, ![1]⟩
abbrev S_ : Shape := ⟨0, ![]⟩
abbrev S36864 : Shape := ⟨1, ![36864]⟩
abbrev S36864x1 : Shape := ⟨2, ![36864, 1]⟩
abbrev S1x2048 : Shape := ⟨2, ![1, 2048]⟩
abbrev S16x5632x36864 : Shape := ⟨3, ![16, 5632, 36864]⟩
abbrev S16x36864x5632 : Shape := ⟨3, ![16, 36864, 5632]⟩
abbrev S16x36864x2048 : Shape := ⟨3, ![16, 36864, 2048]⟩
abbrev S72x512 : Shape := ⟨2, ![72, 512]⟩
abbrev S16 : Shape := ⟨1, ![16]⟩
abbrev S1x16 : Shape := ⟨2, ![1, 16]⟩
abbrev S36864x16 : Shape := ⟨2, ![36864, 16]⟩

abbrev nBuf : Space → Nat
  | .hbm => 57
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x2048x5632, .f32⟩
  | .hbm, ⟨3, _⟩ => ⟨S16x2048x5632, .f32⟩
  | .hbm, ⟨4, _⟩ => ⟨S16x5632x2048, .f32⟩
  | .hbm, ⟨5, _⟩ => ⟨S72, .i32⟩
  | .hbm, ⟨6, _⟩ => ⟨S1, .i32⟩
  | .hbm, ⟨7, _⟩ => ⟨S36864x2048, .f32⟩
  | .hbm, ⟨8, _⟩ => ⟨S_, .f32⟩
  | .hbm, ⟨9, _⟩ => ⟨S36864, .f32⟩
  | .hbm, ⟨10, _⟩ => ⟨S36864x1, .f32⟩
  | .hbm, ⟨11, _⟩ => ⟨S_, .f32⟩
  | .hbm, ⟨12, _⟩ => ⟨S36864x1, .f32⟩
  | .hbm, ⟨13, _⟩ => ⟨S36864x1, .f32⟩
  | .hbm, ⟨14, _⟩ => ⟨S_, .f32⟩
  | .hbm, ⟨15, _⟩ => ⟨S36864x1, .f32⟩
  | .hbm, ⟨16, _⟩ => ⟨S36864x1, .f32⟩
  | .hbm, ⟨17, _⟩ => ⟨S36864x1, .f32⟩
  | .hbm, ⟨18, _⟩ => ⟨S36864x2048, .f32⟩
  | .hbm, ⟨19, _⟩ => ⟨S36864x2048, .f32⟩
  | .hbm, ⟨20, _⟩ => ⟨S1x2048, .f32⟩
  | .hbm, ⟨21, _⟩ => ⟨S36864x2048, .f32⟩
  | .hbm, ⟨22, _⟩ => ⟨S36864x2048, .f32⟩
  | .hbm, ⟨23, _⟩ => ⟨S16x5632x36864, .f32⟩
  | .hbm, ⟨24, _⟩ => ⟨S16x36864x5632, .f32⟩
  | .hbm, ⟨25, _⟩ => ⟨S16x5632x36864, .f32⟩
  | .hbm, ⟨26, _⟩ => ⟨S16x36864x5632, .f32⟩
  | .hbm, ⟨27, _⟩ => ⟨S16x36864x5632, .f32⟩
  | .hbm, ⟨28, _⟩ => ⟨S16x36864x5632, .f32⟩
  | .hbm, ⟨29, _⟩ => ⟨S_, .f32⟩
  | .hbm, ⟨30, _⟩ => ⟨S16x36864x5632, .f32⟩
  | .hbm, ⟨31, _⟩ => ⟨S16x36864x5632, .f32⟩
  | .hbm, ⟨32, _⟩ => ⟨S_, .f32⟩
  | .hbm, ⟨33, _⟩ => ⟨S16x36864x5632, .f32⟩
  | .hbm, ⟨34, _⟩ => ⟨S16x36864x5632, .f32⟩
  | .hbm, ⟨35, _⟩ => ⟨S16x36864x5632, .f32⟩
  | .hbm, ⟨36, _⟩ => ⟨S16x36864x5632, .f32⟩
  | .hbm, ⟨37, _⟩ => ⟨S16x36864x2048, .f32⟩
  | .hbm, ⟨38, _⟩ => ⟨S72x512, .i32⟩
  | .hbm, ⟨39, _⟩ => ⟨S36864, .i32⟩
  | .hbm, ⟨40, _⟩ => ⟨S72, .i32⟩
  | .hbm, ⟨41, _⟩ => ⟨S_, .i32⟩
  | .hbm, ⟨42, _⟩ => ⟨S72, .i32⟩
  | .hbm, ⟨43, _⟩ => ⟨S72, .i1⟩
  | .hbm, ⟨44, _⟩ => ⟨S72x512, .i1⟩
  | .hbm, ⟨45, _⟩ => ⟨S36864, .i1⟩
  | .hbm, ⟨46, _⟩ => ⟨S36864x1, .i32⟩
  | .hbm, ⟨47, _⟩ => ⟨S16, .i32⟩
  | .hbm, ⟨48, _⟩ => ⟨S1x16, .i32⟩
  | .hbm, ⟨49, _⟩ => ⟨S36864x16, .i32⟩
  | .hbm, ⟨50, _⟩ => ⟨S36864x16, .i32⟩
  | .hbm, ⟨51, _⟩ => ⟨S36864x16, .i1⟩
  | .hbm, ⟨52, _⟩ => ⟨S36864x1, .i1⟩
  | .hbm, ⟨53, _⟩ => ⟨S36864x16, .i1⟩
  | .hbm, ⟨54, _⟩ => ⟨S36864x16, .i1⟩
  | .hbm, ⟨55, _⟩ => ⟨S36864x16, .f32⟩
  | .hbm, ⟨56, _⟩ => ⟨S36864x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S16384x2048 : Shape := ⟨2, ![16384, 2048]⟩
abbrev S16384x4x128 : Shape := ⟨3, ![16384, 4, 128]⟩
abbrev S16384x8x64 : Shape := ⟨3, ![16384, 8, 64]⟩
abbrev S16384x16x64 : Shape := ⟨3, ![16384, 16, 64]⟩
abbrev S2048x2048 : Shape := ⟨2, ![2048, 2048]⟩
abbrev S4x16384x128 : Shape := ⟨3, ![4, 16384, 128]⟩
abbrev S16384x2x8x64 : Shape := ⟨4, ![16384, 2, 8, 64]⟩
abbrev S8x16384x2x64 : Shape := ⟨4, ![8, 16384, 2, 64]⟩
abbrev S8x16384x128 : Shape := ⟨3, ![8, 16384, 128]⟩
abbrev S1024x2048 : Shape := ⟨2, ![1024, 2048]⟩
abbrev S2x8x64x2048 : Shape := ⟨4, ![2, 8, 64, 2048]⟩
abbrev S8x2x64x2048 : Shape := ⟨4, ![8, 2, 64, 2048]⟩
abbrev S512x2048 : Shape := ⟨2, ![512, 2048]⟩
abbrev S4x512x128 : Shape := ⟨3, ![4, 512, 128]⟩
abbrev S8x512x128 : Shape := ⟨3, ![8, 512, 128]⟩
abbrev S1x512x128 : Shape := ⟨3, ![1, 512, 128]⟩
abbrev S512x128 : Shape := ⟨2, ![512, 128]⟩
abbrev S512x512 : Shape := ⟨2, ![512, 512]⟩
abbrev S2048x512 : Shape := ⟨2, ![2048, 512]⟩

abbrev nBuf : Space → Nat
  | .hbm => 32
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x4x128, .f32⟩
  | .hbm, ⟨2, _⟩ => ⟨S16384x8x64, .f32⟩
  | .hbm, ⟨3, _⟩ => ⟨S16384x16x64, .f32⟩
  | .hbm, ⟨4, _⟩ => ⟨S16384x16x64, .f32⟩
  | .hbm, ⟨5, _⟩ => ⟨S16384x16x64, .f32⟩
  | .hbm, ⟨6, _⟩ => ⟨S2048x2048, .f32⟩
  | .hbm, ⟨7, _⟩ => ⟨S4x16384x128, .f32⟩
  | .hbm, ⟨8, _⟩ => ⟨S4x16384x128, .bf16⟩
  | .hbm, ⟨9, _⟩ => ⟨S16384x4x128, .f32⟩
  | .hbm, ⟨10, _⟩ => ⟨S4x16384x128, .f32⟩
  | .hbm, ⟨11, _⟩ => ⟨S4x16384x128, .bf16⟩
  | .hbm, ⟨12, _⟩ => ⟨S16384x2x8x64, .f32⟩
  | .hbm, ⟨13, _⟩ => ⟨S8x16384x2x64, .f32⟩
  | .hbm, ⟨14, _⟩ => ⟨S8x16384x128, .f32⟩
  | .hbm, ⟨15, _⟩ => ⟨S8x16384x128, .bf16⟩
  | .hbm, ⟨16, _⟩ => ⟨S16384x2x8x64, .f32⟩
  | .hbm, ⟨17, _⟩ => ⟨S8x16384x2x64, .f32⟩
  | .hbm, ⟨18, _⟩ => ⟨S8x16384x128, .f32⟩
  | .hbm, ⟨19, _⟩ => ⟨S8x16384x128, .bf16⟩
  | .hbm, ⟨20, _⟩ => ⟨S16384x2x8x64, .f32⟩
  | .hbm, ⟨21, _⟩ => ⟨S8x16384x2x64, .f32⟩
  | .hbm, ⟨22, _⟩ => ⟨S8x16384x128, .f32⟩
  | .hbm, ⟨23, _⟩ => ⟨S8x16384x128, .bf16⟩
  | .hbm, ⟨24, _⟩ => ⟨S1024x2048, .f32⟩
  | .hbm, ⟨25, _⟩ => ⟨S2x8x64x2048, .f32⟩
  | .hbm, ⟨26, _⟩ => ⟨S8x2x64x2048, .f32⟩
  | .hbm, ⟨27, _⟩ => ⟨S1024x2048, .f32⟩
  | .hbm, ⟨28, _⟩ => ⟨S1024x2048, .f32⟩
  | .hbm, ⟨29, _⟩ => ⟨S2048x2048, .f32⟩
  | .hbm, ⟨30, _⟩ => ⟨S2048x2048, .bf16⟩
  | .hbm, ⟨31, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x2048 : Shape := ⟨2, ![16384, 2048]⟩
abbrev S16384x4x128 : Shape := ⟨3, ![16384, 4, 128]⟩
abbrev S16384x8x64 : Shape := ⟨3, ![16384, 8, 64]⟩
abbrev S16384x16x64 : Shape := ⟨3, ![16384, 16, 64]⟩
abbrev S2048x2048 : Shape := ⟨2, ![2048, 2048]⟩
abbrev S16384x512 : Shape := ⟨2, ![16384, 512]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4x128, .f32⟩
  | .hbm, ⟨2, _⟩ => ⟨S16384x8x64, .f32⟩
  | .hbm, ⟨3, _⟩ => ⟨S16384x16x64, .f32⟩
  | .hbm, ⟨4, _⟩ => ⟨S16384x16x64, .f32⟩
  | .hbm, ⟨5, _⟩ => ⟨S16384x16x64, .f32⟩
  | .hbm, ⟨6, _⟩ => ⟨S2048x2048, .f32⟩
  | .hbm, ⟨7, _⟩ => ⟨S16384x512, .f32⟩
  | .hbm, ⟨8, _⟩ => ⟨S16384x512, .f32⟩
  | .hbm, ⟨9, _⟩ => ⟨S16384x16x64, .f32⟩
  | .hbm, ⟨10, _⟩ => ⟨S16384x16x64, .f32⟩
  | .hbm, ⟨11, _⟩ => ⟨S16384x1024, .f32⟩
  | .hbm, ⟨12, _⟩ => ⟨S16384x2048, .f32⟩
  | .hbm, ⟨13, _⟩ => ⟨S16384x2048, .f32⟩
  | .hbm, ⟨14, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Step.lean ====
/- One key tile of the attention, as a function of the running maximum and the running sums. -/
module

public import proofs.«01_k».proof.Proof.Gen.KernelIdeal.Frame
public import Idealize.ShloMosaic.Lib.Pipeline.ReadBack
public import Idealize.ShloMosaic.Lib.Pipeline.Value

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

/-- The running maximum of the first map's rows, of the second map's rows, and the running sums of both. -/
abbrev St (F : FTy → Type) := Vec F S512x128 .f32 × Vec F S512x128 .f32 × Vec F S1024x256 .f32

/-- The scores of the two maps' query rows against one tile of keys. -/
def scores (q2 : Vec F S1024x256 .bf16) (cb kb : Vec F S1x512x128 .bf16) : FVec F S1024x512 .f32 :=
  matmul dot_S1024x256_S512x256_S1024x512_1_1_0_0_n_n none q2
    (concatenate S512x256 1 [⟨S512x128, shapeCast S512x128 kb shapeCasts_S1x512x128_S512x128⟩,
      ⟨S512x128, shapeCast S512x128 cb shapeCasts_S1x512x128_S512x128⟩] concatenates_S512x128_S512x128_S512x256_d1)
    (constant S1024x512 .f32 0x00000000#32)

def scoresT (s : FVec F S1024x512 .f32) : FVec F S512x512 .f32 :=
  extractStridedSlice S512x512 ![0, 0] s slices_S1024x512_o0_0_S512x512

def scoresB (s : FVec F S1024x512 .f32) : FVec F S512x512 .f32 :=
  extractStridedSlice S512x512 ![512, 0] s slices_S1024x512_o512_0_S512x512

/-- The maximum after a tile of scores standing `off` above what is stored. -/
def newM (s : FVec F S512x512 .f32) (off : F .f32) (m : Vec F S512x128 .f32) : FVec F S512x128 .f32 :=
  maximumf m (broadcastTo S512x128
    (addf (shapeCast S512x1 (multiReduction .maximumf [1] S512 s 0xFF800000#32 reduces_S512x512_S512 (.inl rfl) rfl) shapeCasts_S512_S512x1)
      (broadcast S512x1 off)) broadcasts_S512x1_S512x128)

/-- The weights of a tile below the maximum `m`. -/
def wts (s : FVec F S512x512 .f32) (off : F .f32) (m : FVec F S512x128 .f32) : FVec F S512x512 .bf16 :=
  truncf .bf16 (exp2 (subf s (concatenate S512x512 1
    [⟨S512x128, subf m (broadcast S512x128 off)⟩, ⟨S512x128, subf m (broadcast S512x128 off)⟩,
     ⟨S512x128, subf m (broadcast S512x128 off)⟩, ⟨S512x128, subf m (broadcast S512x128 off)⟩]
    concatenates_S512x128_S512x128_S512x128_S512x128_S512x512_d1))) bitsLt_bf16_f32

/-- The sums after a tile. -/
def newA (pT pB : FVec F S512x512 .bf16) (aT aB : FVec F S512x128 .f32) (v25 : FVec F S512x128 .bf16)
    (vb : Vec F S1x512x128 .bf16) (a : Vec F S1024x256 .f32) : FVec F S1024x256 .f32 :=
  addf (mulf (concatenate S1024x256 1
      [⟨S1024x128, concatenate S1024x128 0 [⟨S512x128, aT⟩, ⟨S512x128, aB⟩] concatenates_S512x128_S512x128_S1024x128_d0⟩,
       ⟨S1024x128, concatenate S1024x128 0 [⟨S512x128, aT⟩, ⟨S512x128, aB⟩] concatenates_S512x128_S512x128_S1024x128_d0⟩]
      concatenates_S1024x128_S1024x128_S1024x256_d1) a)
    (matmul dot_S1024x512_S512x256_S1024x256_1_0_0_1_n_n none
      (concatenate S1024x512 0 [⟨S512x512, pT⟩, ⟨S512x512, pB⟩] concatenates_S512x512_S512x512_S1024x512_d0)
      (concatenate S512x256 1 [⟨S512x128, shapeCast S512x128 vb shapeCasts_S1x512x128_S512x128⟩, ⟨S512x128, v25⟩] concatenates_S512x128_S512x128_S512x256_d1)
      (constant S1024x256 .f32 0x00000000#32))

/-- One tile: the scores of the two maps are given. -/
def tileStep (v25 : FVec F S512x128 .bf16) (sl0 sl1 : F .f32) (sT sB : FVec F S512x512 .f32) (toff : F .f32)
    (vb : Vec F S1x512x128 .bf16) (st : St F) : St F :=
  let mT := newM sT (Scalar.mulf sl0 toff) st.1
  let mB := newM sB (Scalar.mulf sl1 toff) st.2.1
  (shapeCast S512x128 mT shapeCasts_S512x128_S512x128, shapeCast S512x128 mB shapeCasts_S512x128_S512x128,
    shapeCast S1024x256 (newA (wts sT (Scalar.mulf sl0 toff) mT) (wts sB (Scalar.mulf sl1 toff) mB)
      (exp2 (subf st.1 mT)) (exp2 (subf st.2.1 mB)) v25 vb st.2.2) shapeCasts_S1024x256_S1024x256)

/-- One tile of keys wholly in the past. -/
def fullStep (v25 : FVec F S512x128 .bf16) (sl0 sl1 : F .f32) (q2 : Vec F S1024x256 .bf16) (cb : Vec F S1x512x128 .bf16) (toff : F .f32)
    (kb vb : Vec F S1x512x128 .bf16) (st : St F) : St F :=
  tileStep v25 sl0 sl1 (scoresT (scores q2 cb kb)) (scoresB (scores q2 cb kb)) toff vb st

/-- The tile on the diagonal, with the table of the causal mask added to the scores. -/
def diagStep (v25 : FVec F S512x128 .bf16) (sl0 sl1 : F .f32) (q2 : Vec F S1024x256 .bf16) (cb : Vec F S1x512x128 .bf16) (toff : F .f32)
    (tab : Vec F S1x512x512 .f32) (kb vb : Vec F S1x512x128 .bf16) (st : St F) : St F :=
  tileStep v25 sl0 sl1
    (addf (scoresT (scores q2 cb kb)) (shapeCast S512x512 tab shapeCasts_S1x512x512_S512x512))
    (addf (scoresB (scores q2 cb kb)) (shapeCast S512x512 tab shapeCasts_S1x512x512_S512x512)) toff vb st

/-- `n` tiles, in order. -/
def steps (g : ℕ → St F → St F) : ℕ → St F → St F
  | 0, s => s
  | n + 1, s => g n (steps g n s)

/-! ## Reading a memref back after stores -/

variable {sig' : RefSig} {κ : Kind} {sp : Space} {s : Shape} {e : EltTy} {Val : EltTy → Type}

theorem readAt_hit (v : View sig' κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

theorem readAt_skip (v : View sig' κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) :=
  funext fun j => View.read_writes_cons_miss v f ⟨r, w⟩ L _ (LoadRect.idx_not_mem_of_disj h j)

end Cert.KernelIdeal.Attn
end
-- ==== Proof.Trip.lean ====
/- One trip of the loop over key tiles: eight tiles. -/
module

public import proofs.«01_k».proof.Proof.Step

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

abbrev rTop : Rect S1024x128 := Rect.unit ![0, 0] S512x128.size inb_S1024x128_S512x128_0_0
abbrev rBot : Rect S1024x128 := Rect.unit ![512, 0] S512x128.size inb_S1024x128_S512x128_512_0
abbrev rAll : Rect S1024x256 := Rect.unit ![0, 0] S1024x256.size inb_S1024x256_S1024x256_0_0

theorem pos1 : 0 < S1.numel := by decide

/-- The state two scratch memrefs hold. -/
def stOf (arg13 : Memref sig .tc .vmem S1024x128 .f32) (arg14 : Memref sig .tc .vmem S1024x256 .f32)
    (f : BufTy.Contents (Elt F) arg13.view.ty) (g : BufTy.Contents (Elt F) arg14.view.ty) : St F :=
  (arg13.view.readAt (Elt F) rTop.toLoadRect f, arg13.view.readAt (Elt F) rBot.toLoadRect f, arg14.view.readAt (Elt F) rAll.toLoadRect g)

/-- How far tile `u` of trip `k` stands from the query rows' tile. -/
def tripOff (arg1 iv u : BitVec 32) : F .f32 :=
  Scalar.sitofp .f32 (Scalar.muli (Scalar.subi (Scalar.addi (Scalar.addi 0#32 (Scalar.muli 8#32 iv)) u) arg1) 512#32)

set_option pp.maxSteps 200 in
set_option maxHeartbeats 4000000 in
theorem trip_state (𝒱 : Variants) (c : Dev nD) (bd : Option 𝒱.V) (i : grid0.Coords)
    (arg2 : Memref sig .tc .smem S8 .f32) (harg2 : arg2.IsWhole) (arg3 : Memref sig .tc .vmem S1x512x128 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x512x512 .f32) (harg6 : arg6.IsWhole) (arg7 : Memref sig .tc .vmem S8x128 .f32) (harg7 : arg7.IsWhole)
    (arg8 : Memref sig .tc .vmem S1x128 .f32) (harg8 : arg8.IsWhole) (arg9 : Memref sig .tc .vmem S1x512x128 .bf16) (harg9 : arg9.IsWhole)
    (arg10 : Memref sig .tc .vmem S1024x128 .bf16) (harg10 : arg10.IsWhole) (arg11 : Memref sig .tc .vmem S1x512x128 .bf16) (harg11 : arg11.IsWhole)
    (arg12 : Memref sig .tc .vmem S1024x256 .bf16) (harg12 : arg12.IsWhole) (arg13 : Memref sig .tc .vmem S1024x128 .f32) (harg13 : arg13.IsWhole)
    (arg14 : Memref sig .tc .vmem S1024x256 .f32) (harg14 : arg14.IsWhole) (arg0 arg1 : BitVec 32) (v25 : FVec F S512x128 .bf16) (v28 v30 : BitVec 32)
    (X2 : BufTy.Contents (Elt F) arg2.view.ty) (X4 : BufTy.Contents (Elt F) arg4.view.ty) (X5 : BufTy.Contents (Elt F) arg5.view.ty)
    (X9 : BufTy.Contents (Elt F) arg9.view.ty) (X12 : BufTy.Contents (Elt F) arg12.view.ty) (k : Fin (k0_t1_loop i).trips)
    (f : BufTy.Contents (Elt F) arg13.view.ty) (g : BufTy.Contents (Elt F) arg14.view.ty) :
    stOf arg13 arg14
      (arg13.view.writes (Elt F) f (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v25 v28 v30 0#32 X2 X4 X5 X9 X12 k f g).1)
      (arg14.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v25 v28 v30 0#32 X2 X4 X5 X9 X12 k f g).2)
    = (fun G : Fin 8 → St F → St F => G 7 (G 6 (G 5 (G 4 (G 3 (G 2 (G 1 (G 0 (stOf arg13 arg14 f g)))))))))
        (fun u => fullStep v25
        (arg2.view.readAt (Elt F) (Rect.unit (s := S8) (k0_off2 i 0#32) S1.size (k0_off2_inb i k 0)).toLoadRect X2 (Shape.Idx.first pos1))
        (arg2.view.readAt (Elt F) (Rect.unit (s := S8) (k0_off2 i 1#32) S1.size (k0_off2_inb i k 1)).toLoadRect X2 (Shape.Idx.first pos1))
        (arg12.view.readAt (Elt F) rAll.toLoadRect X12)
        (arg9.view.readAt (Elt F) (Rect.unit (s := S1x512x128) ![0, 0, 0] S1x512x128.size inb_S1x512x128_S1x512x128_0_0_0).toLoadRect X9)
        (tripOff arg1 (Scf.iv 0#32 1#32 k) (BitVec.ofNat 32 u))
        (arg4.view.readAt (Elt F) (Rect.unit (s := S1x16384x128) (k0_off1 i k (BitVec.ofNat 32 u)) S1x512x128.size (k0_off1_inb i k u)).toLoadRect X4)
        (arg5.view.readAt (Elt F) (Rect.unit (s := S1x16384x128) (k0_off1 i k (BitVec.ofNat 32 u)) S1x512x128.size (k0_off1_inb i k u)).toLoadRect X5)) := by
  unfold tripL_k0_t1 trip_k0_t1
  dsimp only
  sl_unfold_run_names
  unfold stOf
  simp (disch := decide) only [↓ readAt_skip, ↓ readAt_hit, ↓ View.readCov_skip, ↓ View.readCov_cons_toLoadRect]
  rfl

end Cert.KernelIdeal.Attn
end
-- ==== Proof.Loop.lean ====
/- The loop over groups of eight tiles, and the tiles' offsets in closed form. -/
module

public import proofs.«01_k».proof.Proof.Trip
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

/-- Rows `512 j …` of an array of 16384 rows. -/
def tileOf (x : Vec F S1x16384x128 .bf16) (j : ℕ) : Vec F S1x512x128 .bf16 := fun y =>
  x (ix3 0 ⟨(512 * j + (y 1).val) % 16384, Nat.mod_lt _ (by decide)⟩ (y 2))

/-- Entry `n` of the eight slopes. -/
def slot (x : Vec F S8 .f32) (n : ℕ) : F .f32 := x (ix1 ⟨n % 8, Nat.mod_lt _ (by decide)⟩)

/-- The distance of key tile `j` from query tile `i`, as the kernel's float. -/
def toffW (j i : ℕ) : F .f32 := Scalar.sitofp .f32 (BitVec.ofInt 32 (((j : ℤ) - i) * 512))

theorem ld_tile (x : Vec F S1x16384x128 .bf16) (off : Fin 3 → ℕ) (h : ∀ a, off a + S1x512x128.size a ≤ S1x16384x128.size a) (j : ℕ)
    (hoff : off = ![0, 512 * j, 0]) : View.ld x (Rect.unit (s := S1x16384x128) off S1x512x128.size h) = tileOf x j := by
  subst hoff
  funext y
  unfold tileOf
  refine congrArg x (funext fun a => Fin.ext ((congrArg ((![0, 512 * j, 0] : Fin 3 → ℕ) a + ·) (Nat.one_mul (y a).val)).trans ?_))
  have h1 := h 1
  have hy := (y 1).isLt
  have e1 : S1x512x128.size 1 = 512 := rfl
  have e2 : S1x16384x128.size 1 = 16384 := rfl
  have e3 : (![0, 512 * j, 0] : Fin 3 → ℕ) 1 = 512 * j := rfl
  rw [e1, e2, e3] at h1
  have hy' : (y 1).val < 512 := hy
  match a with
  | ⟨0, _⟩ =>
    have := (y 0).isLt
    have h0 : (y 0).val < 1 := this
    show 0 + (y 0).val = 0
    omega
  | ⟨1, _⟩ =>
    show 512 * j + (y 1).val = (512 * j + (y 1).val) % 16384
    exact (Nat.mod_eq_of_lt (by omega)).symm
  | ⟨2, _⟩ => show 0 + (y 2).val = (y 2).val; omega

theorem ld_slot (x : Vec F S8 .f32) (off : Fin 1 → ℕ) (h : ∀ a, off a + S1.size a ≤ S8.size a) (n : ℕ) (hoff : off = ![n]) :
    View.ld x (Rect.unit (s := S8) off S1.size h) (Shape.Idx.first pos1) = slot x n := by
  subst hoff
  unfold slot
  refine congrArg x (funext fun a => Fin.ext ((congrArg ((![n] : Fin 1 → ℕ) a + ·) (Nat.one_mul _)).trans ?_))
  have h1 := h 0
  have e1 : S1.size 0 = 1 := rfl
  have e2 : S8.size 0 = 8 := rfl
  have e3 : (![n] : Fin 1 → ℕ) 0 = n := rfl
  rw [e1, e2, e3] at h1
  match a with
  | ⟨0, _⟩ =>
    show n + 0 = n % 8
    rw [Nat.mod_eq_of_lt (a := n) (b := 8) (by omega)]
    rfl

/-- A tile's step as the body computes it: slopes, keys and values read at the offsets it forms. -/
def rawStep (x0 : Vec F S8 .f32) (x2 x3 : Vec F S1x16384x128 .bf16) (x7 : Vec F S1x512x128 .bf16) (q2 : Vec F S1024x256 .bf16)
    (o0 o1 : Fin 1 → ℕ) (h0 : ∀ a, o0 a + S1.size a ≤ S8.size a) (h1 : ∀ a, o1 a + S1.size a ≤ S8.size a)
    (off : Fin 3 → ℕ) (h : ∀ a, off a + S1x512x128.size a ≤ S1x16384x128.size a) (toff : F .f32) (st : St F) : St F :=
  fullStep k0_pay363 (View.ld x0 (Rect.unit (s := S8) o0 S1.size h0) (Shape.Idx.first pos1))
    (View.ld x0 (Rect.unit (s := S8) o1 S1.size h1) (Shape.Idx.first pos1)) q2
    (View.ld x7 (Rect.unit (s := S1x512x128) ![0, 0, 0] S1x512x128.size inb_S1x512x128_S1x512x128_0_0_0)) toff
    (View.ld x2 (Rect.unit (s := S1x16384x128) off S1x512x128.size h)) (View.ld x3 (Rect.unit (s := S1x16384x128) off S1x512x128.size h)) st

/-- The step of key tile `j` for query tile `i` of head pair `p`. -/
def T (x0 : Vec F S8 .f32) (x2 x3 : Vec F S1x16384x128 .bf16) (x7 : Vec F S1x512x128 .bf16) (q2 : Vec F S1024x256 .bf16)
    (p i j : ℕ) (st : St F) : St F :=
  fullStep k0_pay363 (slot x0 (2 * p)) (slot x0 (2 * p + 1)) q2 x7 (toffW j i) (tileOf x2 j) (tileOf x3 j) st

theorem z3 : (![0, 0, 0] : Fin 3 → ℕ) = fun _ => 0 := by decide
theorem z2 : (![0, 0] : Fin 2 → ℕ) = fun _ => 0 := by decide

theorem rawStep_eq (x0 : Vec F S8 .f32) (x2 x3 : Vec F S1x16384x128 .bf16) (x7 : Vec F S1x512x128 .bf16) (q2 : Vec F S1024x256 .bf16)
    (o0 o1 : Fin 1 → ℕ) (h0 : ∀ a, o0 a + S1.size a ≤ S8.size a) (h1 : ∀ a, o1 a + S1.size a ≤ S8.size a)
    (off : Fin 3 → ℕ) (h : ∀ a, off a + S1x512x128.size a ≤ S1x16384x128.size a) (toff : F .f32) (p i j : ℕ)
    (e0 : o0 = ![2 * p]) (e1 : o1 = ![2 * p + 1]) (e : off = ![0, 512 * j, 0]) (et : toff = toffW j i) :
    rawStep x0 x2 x3 x7 q2 o0 o1 h0 h1 off h toff = T x0 x2 x3 x7 q2 p i j := by
  funext st
  unfold rawStep T
  rw [ld_slot x0 o0 h0 _ e0, ld_slot x0 o1 h1 _ e1, ld_tile x2 off h j e, ld_tile x3 off h j e, et, View.ld_unit_zero z3]

theorem rows_lt (i : grid0.Coords) : (i 1).val < 32 := (i 1).isLt
theorem heads_lt (i : grid0.Coords) : (i 0).val < 4 := (i 0).isLt

theorem word_slope : ∀ p : Fin 4, ∀ c : Fin 2,
    (Scalar.addi (Scalar.muli (Scalar.addi (Scalar.muli (BitVec.ofNat 32 p.val) 1#32) 0#32) 2#32) (BitVec.ofNat 32 c.val)).toNat = 2 * p.val + c.val := by
  decide

theorem word_group : ∀ k : Fin 4, ∀ u : Fin 8,
    (Scalar.muli (Scalar.addi (Scalar.addi 0#32 (Scalar.muli 8#32 (Scf.iv 0#32 1#32 k.val))) (BitVec.ofNat 32 u.val)) 512#32).toNat
      = 512 * (8 * k.val + u.val) := by
  decide

theorem word_off : ∀ j i : Fin 32, Scalar.muli (Scalar.subi (BitVec.ofNat 32 j.val) (BitVec.ofNat 32 i.val)) 512#32
    = BitVec.ofInt 32 (((j.val : ℤ) - i.val) * 512) := by
  decide +kernel

theorem word_iv : ∀ k : Fin 4, ∀ u : Fin 8, Scalar.addi (Scalar.addi 0#32 (Scalar.muli 8#32 (Scf.iv 0#32 1#32 k.val))) (BitVec.ofNat 32 u.val)
    = BitVec.ofNat 32 (8 * k.val + u.val) := by
  decide

theorem trips_eq (i : grid0.Coords) : (k0_t1_loop i).trips = (i 1).val / 8 := by
  have h : ∀ a : Fin 4, ∀ b : Fin 32, (k0_t1_loop (fun d => match d with | ⟨0, _⟩ => a | ⟨1, _⟩ => b)).trips = b.val / 8 := by decide +kernel
  have e : i = (fun d => match d with | ⟨0, _⟩ => i 0 | ⟨1, _⟩ => i 1) := by
    funext d
    match d with
    | ⟨0, _⟩ => rfl
    | ⟨1, _⟩ => rfl
  have := h (i 0) (i 1)
  rw [← e] at this
  exact this

variable (c : Dev nD) (i : grid0.Coords)
  (arg2 : Memref sig .tc .smem S8 .f32) (harg2 : arg2.IsWhole) (arg3 : Memref sig .tc .vmem S1x512x128 .bf16) (harg3 : arg3.IsWhole)
  (arg4 : Memref sig .tc .vmem S1x16384x128 .bf16) (harg4 : arg4.IsWhole) (arg5 : Memref sig .tc .vmem S1x16384x128 .bf16) (harg5 : arg5.IsWhole)
  (arg6 : Memref sig .tc .vmem S1x512x512 .f32) (harg6 : arg6.IsWhole) (arg7 : Memref sig .tc .vmem S8x128 .f32) (harg7 : arg7.IsWhole)
  (arg8 : Memref sig .tc .vmem S1x128 .f32) (harg8 : arg8.IsWhole) (arg9 : Memref sig .tc .vmem S1x512x128 .bf16) (harg9 : arg9.IsWhole)
  (arg10 : Memref sig .tc .vmem S1024x128 .bf16) (harg10 : arg10.IsWhole) (arg11 : Memref sig .tc .vmem S1x512x128 .bf16) (harg11 : arg11.IsWhole)
  (arg12 : Memref sig .tc .vmem S1024x256 .bf16) (harg12 : arg12.IsWhole) (arg13 : Memref sig .tc .vmem S1024x128 .f32) (harg13 : arg13.IsWhole)
  (arg14 : Memref sig .tc .vmem S1024x256 .f32) (harg14 : arg14.IsWhole)

theorem pb2_nil (arg0 arg1 : BitVec 32) (v25 : FVec F S512x128 .bf16) (v28 v30 z v35 : BitVec 32)
    (X2 : BufTy.Contents (Elt F) arg2.view.ty) (X4 : BufTy.Contents (Elt F) arg4.view.ty) (X5 : BufTy.Contents (Elt F) arg5.view.ty)
    (X9 : BufTy.Contents (Elt F) arg9.view.ty) (X12 : BufTy.Contents (Elt F) arg12.view.ty)
    (G13 : BufTy.Contents (Elt F) arg13.view.ty) (G14 : BufTy.Contents (Elt F) arg14.view.ty) (n : ℕ) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg0 arg1 v25 v28 v30 z v35 X2 X4 X5 X9 X12 G13 G14 n = ([], []) := by
  induction n with
  | zero => rfl
  | succ n ih =>
    rw [pb_k0_t2.eq_2]
    unfold pb_k0_t2Step
    rw [dif_neg, ih]
    exact Nat.not_lt.2 (Nat.le_trans (k0_t2_abs i).2.1 (Nat.zero_le _))

theorem loop_state (v28 v30 : BitVec 32) (x0 : Vec F S8 .f32) (x2 x3 : Vec F S1x16384x128 .bf16) (x7 : Vec F S1x512x128 .bf16)
    (q2 : Vec F S1024x256 .bf16) (X12 : BufTy.Contents (Elt F) arg12.view.ty) (hq : arg12.view.readAt (Elt F) rAll.toLoadRect X12 = q2)
    (G13 : BufTy.Contents (Elt F) arg13.view.ty) (G14 : BufTy.Contents (Elt F) arg14.view.ty) (n : ℕ) (hn : n ≤ (k0_t1_loop i).trips) :
    stOf arg13 arg14
      (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 v28 v30 0#32 (harg2.unread x0) (harg4.unread x2) (harg5.unread x3) (harg9.unread x7) X12 G13 G14 n).1)
      (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 v28 v30 0#32 (harg2.unread x0) (harg4.unread x2) (harg5.unread x3) (harg9.unread x7) X12 G13 G14 n).2)
    = steps (T x0 x2 x3 x7 q2 (i 0).val (i 1).val) (8 * n) (stOf arg13 arg14 G13 G14) := by
  induction n with
  | zero => rfl
  | succ n ih =>
    have hn' : n < (k0_t1_loop i).trips := hn
    have h4 : n < 4 := by have := trips_eq i; have := rows_lt i; omega
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 v28 v30 0#32
      (harg2.unread x0) (harg4.unread x2) (harg5.unread x3) (harg9.unread x7) X12 G13 G14 ⟨n, hn'⟩
    rw [e]
    dsimp only
    rw [View.writes_append, View.writes_append, trip_state, ih (Nat.le_of_lt hn'), hq]
    have hstep : ∀ u : Fin 8, (fullStep k0_pay363
        (arg2.view.readAt (Elt F) (Rect.unit (s := S8) (k0_off2 i 0#32) S1.size (k0_off2_inb i ⟨n, hn'⟩ 0)).toLoadRect (harg2.unread x0) (Shape.Idx.first pos1))
        (arg2.view.readAt (Elt F) (Rect.unit (s := S8) (k0_off2 i 1#32) S1.size (k0_off2_inb i ⟨n, hn'⟩ 1)).toLoadRect (harg2.unread x0) (Shape.Idx.first pos1))
        q2
        (arg9.view.readAt (Elt F) (Rect.unit (s := S1x512x128) ![0, 0, 0] S1x512x128.size inb_S1x512x128_S1x512x128_0_0_0).toLoadRect (harg9.unread x7))
        (tripOff (BitVec.ofNat 32 (i 1).val) (Scf.iv 0#32 1#32 n) (BitVec.ofNat 32 u))
        (arg4.view.readAt (Elt F) (Rect.unit (s := S1x16384x128) (k0_off1 i ⟨n, hn'⟩ (BitVec.ofNat 32 u)) S1x512x128.size (k0_off1_inb i ⟨n, hn'⟩ u)).toLoadRect (harg4.unread x2))
        (arg5.view.readAt (Elt F) (Rect.unit (s := S1x16384x128) (k0_off1 i ⟨n, hn'⟩ (BitVec.ofNat 32 u)) S1x512x128.size (k0_off1_inb i ⟨n, hn'⟩ u)).toLoadRect (harg5.unread x3)))
        = T x0 x2 x3 x7 q2 (i 0).val (i 1).val (8 * n + u.val) := by
      intro u
      rw [View.readAt_eq_ld, View.readAt_eq_ld, View.readAt_eq_ld, View.readAt_eq_ld, View.readAt_eq_ld,
        harg2.read_unread, harg4.read_unread, harg5.read_unread, harg9.read_unread]
      refine rawStep_eq x0 x2 x3 x7 q2 _ _ _ _ _ _ _ (i 0).val (i 1).val (8 * n + u.val) ?_ ?_ ?_ ?_
      · exact congrArg (fun m => ![m]) (word_slope (i 0) 0)
      · exact congrArg (fun m => ![m]) (word_slope (i 0) 1)
      · exact congrArg (fun m => ![0, m, 0]) (word_group ⟨n, h4⟩ u)
      · unfold tripOff toffW
        have hw := word_iv ⟨n, h4⟩ u
        have ho := word_off ⟨8 * n + u.val, by omega⟩ (i 1)
        dsimp only at hw ho
        rw [hw, ho]
    simp only [hstep]
    rfl

end Cert.KernelIdeal.Attn
end
-- ==== Proof.Block.lean ====
/- A grid point's result block as a function of its argument blocks. -/
module

public import proofs.«01_k».proof.Proof.Loop
public import Idealize.ShloMosaic.Lib.VecWindow

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

/-- The state before any tile. -/
def init : St F := (fun _ => Scalar.ofBits .f32 0xF149F2CA#32, fun _ => Scalar.ofBits .f32 0xF149F2CA#32, fun _ => Scalar.ofBits .f32 0x00000000#32)

/-- The result block from the sums: the quotients, their difference, the norm. -/
def finalOut (x5 : Vec F S8x128 .f32) (x6 : Vec F S1x128 .f32) (a : Vec F S1024x256 .f32) : Vec F S1x512x128 .bf16 :=
  have l4 := View.ld x5 (Rect.unit (s := S8x128) ![4, 0] S1x1.size inb_S8x128_S1x1_4_0)
  have l0 := View.ld x5 (Rect.unit (s := S8x128) ![0, 0] S1x128.size inb_S8x128_S1x128_0_0)
  have l1 := View.ld x5 (Rect.unit (s := S8x128) ![1, 0] S1x128.size inb_S8x128_S1x128_1_0)
  have l2 := View.ld x5 (Rect.unit (s := S8x128) ![2, 0] S1x128.size inb_S8x128_S1x128_2_0)
  have l3 := View.ld x5 (Rect.unit (s := S8x128) ![3, 0] S1x128.size inb_S8x128_S1x128_3_0)
  k0_pay1 (k0_pay368 l4) (k0_pay369 a l4 l0 l1 l2 l3)
    (k0_pay370 (View.ld x6 (Rect.unit (s := S1x128) ![0, 0] S1x128.size inb_S1x128_S1x128_0_0)))
    (k0_pay371 a l4 l0 l1 l2 l3) (Scalar.ofBits .f32 0x43000000#32)

/-- The step of the diagonal tile. -/
def TD (x0 : Vec F S8 .f32) (x2 x3 : Vec F S1x16384x128 .bf16) (x4 : Vec F S1x512x512 .f32) (x7 : Vec F S1x512x128 .bf16) (q2 : Vec F S1024x256 .bf16)
    (p i : ℕ) (st : St F) : St F :=
  diagStep k0_pay363 (slot x0 (2 * p)) (slot x0 (2 * p + 1)) q2 x7 (toffW i i) x4 (tileOf x2 i) (tileOf x3 i) st

/-- The state after all tiles up to the diagonal. -/
def endState (x0 : Vec F S8 .f32) (x1 : Vec F S1x512x128 .bf16) (x2 x3 : Vec F S1x16384x128 .bf16) (x4 : Vec F S1x512x512 .f32)
    (x7 : Vec F S1x512x128 .bf16) (x8 : Vec F S1024x128 .bf16) (p i : ℕ) : St F :=
  TD x0 x2 x3 x4 x7 (k0_pay360 x1 x8) p i (steps (T x0 x2 x3 x7 (k0_pay360 x1 x8) p i) i init)

/-- The result block of query tile `i` of head pair `p`. -/
def attnOut (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) (p i : ℕ) : Vec F S1x512x128 .bf16 :=
  finalOut x5 x6 (endState x0 x1 x2 x3 x4 x7 x8 p i).2.2

/-- The diagonal tile's step as the body computes it. -/
def rawDiag (x0 : Vec F S8 .f32) (x2 x3 : Vec F S1x16384x128 .bf16) (x4 : Vec F S1x512x512 .f32) (x7 : Vec F S1x512x128 .bf16) (q2 : Vec F S1024x256 .bf16)
    (o0 o1 : Fin 1 → ℕ) (h0 : ∀ a, o0 a + S1.size a ≤ S8.size a) (h1 : ∀ a, o1 a + S1.size a ≤ S8.size a)
    (off : Fin 3 → ℕ) (h : ∀ a, off a + S1x512x128.size a ≤ S1x16384x128.size a) (toff : F .f32) (st : St F) : St F :=
  diagStep k0_pay363 (View.ld x0 (Rect.unit (s := S8) o0 S1.size h0) (Shape.Idx.first pos1))
    (View.ld x0 (Rect.unit (s := S8) o1 S1.size h1) (Shape.Idx.first pos1)) q2
    (View.ld x7 (Rect.unit (s := S1x512x128) ![0, 0, 0] S1x512x128.size inb_S1x512x128_S1x512x128_0_0_0)) toff
    (View.ld x4 (Rect.unit (s := S1x512x512) ![0, 0, 0] S1x512x512.size inb_S1x512x512_S1x512x512_0_0_0))
    (View.ld x2 (Rect.unit (s := S1x16384x128) off S1x512x128.size h)) (View.ld x3 (Rect.unit (s := S1x16384x128) off S1x512x128.size h)) st

theorem rawDiag_eq (x0 : Vec F S8 .f32) (x2 x3 : Vec F S1x16384x128 .bf16) (x4 : Vec F S1x512x512 .f32) (x7 : Vec F S1x512x128 .bf16) (q2 : Vec F S1024x256 .bf16)
    (o0 o1 : Fin 1 → ℕ) (h0 : ∀ a, o0 a + S1.size a ≤ S8.size a) (h1 : ∀ a, o1 a + S1.size a ≤ S8.size a)
    (off : Fin 3 → ℕ) (h : ∀ a, off a + S1x512x128.size a ≤ S1x16384x128.size a) (toff : F .f32) (p i : ℕ)
    (e0 : o0 = ![2 * p]) (e1 : o1 = ![2 * p + 1]) (e : off = ![0, 512 * i, 0]) (et : toff = toffW i i) :
    rawDiag x0 x2 x3 x4 x7 q2 o0 o1 h0 h1 off h toff = TD x0 x2 x3 x4 x7 q2 p i := by
  funext st
  unfold rawDiag TD
  rw [ld_slot x0 o0 h0 _ e0, ld_slot x0 o1 h1 _ e1, ld_tile x2 off h i e, ld_tile x3 off h i e, et, View.ld_unit_zero z3, View.ld_unit_zero z3]

/-- The number of tiles before the diagonal, as the body computes it. -/
def nW (b : BitVec 32) : BitVec 32 := Scalar.maxsi (Scalar.addi (Scalar.subi b 1#32) 1#32) 0#32

/-- The first tile of the group of four, of two, and of the single tile. -/
def base1 (b : BitVec 32) : BitVec 32 := Scalar.addi 0#32 (Scalar.muli 8#32 (Scalar.shrsi (Scalar.subi (nW b) 0#32) 3#32))
def base2 (b : BitVec 32) : BitVec 32 := Scalar.addi (base1 b) (Scalar.andi (Scalar.subi (nW b) 0#32) 4#32)
def base3 (b : BitVec 32) : BitVec 32 := Scalar.addi (base2 b) (Scalar.andi (Scalar.subi (nW b) 0#32) 2#32)

theorem word_base : ∀ b : Fin 32, base1 (BitVec.ofNat 32 b.val) = BitVec.ofNat 32 (8 * (b.val / 8)) ∧
    base2 (BitVec.ofNat 32 b.val) = BitVec.ofNat 32 (4 * (b.val / 4)) ∧ base3 (BitVec.ofNat 32 b.val) = BitVec.ofNat 32 (2 * (b.val / 2)) := by
  decide +kernel

theorem word_add : ∀ a : Fin 32, ∀ u : Fin 4, a.val + u.val < 32 → Scalar.addi (BitVec.ofNat 32 a.val) (BitVec.ofNat 32 u.val) = BitVec.ofNat 32 (a.val + u.val) := by
  decide +kernel

theorem word_row : ∀ a : Fin 32, (Scalar.muli (BitVec.ofNat 32 a.val) 512#32).toNat = 512 * a.val := by
  decide +kernel

/-- The kernel's float of a tile's distance, from the tile's number as a word. -/
def toffB (b w : BitVec 32) : F .f32 := Scalar.sitofp .f32 (Scalar.muli (Scalar.subi w b) 512#32)

theorem toffB_eq (j i : Fin 32) : toffB (F := F) (BitVec.ofNat 32 i.val) (BitVec.ofNat 32 j.val) = toffW j.val i.val := by
  unfold toffB toffW
  rw [word_off]

variable (i : grid0.Coords)

/-- A tile past the groups of eight, whose number is the word `w`. -/
theorem rawTail_eq (x0 : Vec F S8 .f32) (x2 x3 : Vec F S1x16384x128 .bf16) (x7 : Vec F S1x512x128 .bf16) (q2 : Vec F S1024x256 .bf16)
    (o0 o1 : Fin 1 → ℕ) (h0 : ∀ a, o0 a + S1.size a ≤ S8.size a) (h1 : ∀ a, o1 a + S1.size a ≤ S8.size a)
    (off : Fin 3 → ℕ) (h : ∀ a, off a + S1x512x128.size a ≤ S1x16384x128.size a) (w : BitVec 32) (a u j : ℕ)
    (e0 : o0 = ![(Scalar.addi (Scalar.muli (Scalar.addi (Scalar.muli (BitVec.ofNat 32 (i 0).val) 1#32) 0#32) 2#32) (BitVec.ofNat 32 0)).toNat])
    (e1 : o1 = ![(Scalar.addi (Scalar.muli (Scalar.addi (Scalar.muli (BitVec.ofNat 32 (i 0).val) 1#32) 0#32) 2#32) (BitVec.ofNat 32 1)).toNat])
    (e : off = ![0, (Scalar.muli (Scalar.addi w (BitVec.ofNat 32 u)) 512#32).toNat, 0]) (hw : w = BitVec.ofNat 32 a) (hu : u < 4) (ha : a + u < 32) (hj : a + u = j) :
    rawStep x0 x2 x3 x7 q2 o0 o1 h0 h1 off h (toffB (BitVec.ofNat 32 (i 1).val) (Scalar.addi w (BitVec.ofNat 32 u))) = T x0 x2 x3 x7 q2 (i 0).val (i 1).val j := by
  subst hj hw
  have hwd := word_add ⟨a, by omega⟩ ⟨u, hu⟩ ha
  dsimp only at hwd
  rw [hwd] at e
  rw [hwd]
  refine rawStep_eq x0 x2 x3 x7 q2 _ _ h0 h1 _ h _ (i 0).val (i 1).val (a + u) ?_ ?_ ?_ ?_
  · exact e0.trans (congrArg (fun m => ![m]) (word_slope (i 0) 0))
  · exact e1.trans (congrArg (fun m => ![m]) (word_slope (i 0) 1))
  · exact e.trans (congrArg (fun m => ![0, m, 0]) (word_row ⟨a + u, ha⟩))
  · exact toffB_eq ⟨a + u, ha⟩ (i 1)

theorem tail1 (x0 : Vec F S8 .f32) (x2 x3 : Vec F S1x16384x128 .bf16) (x7 : Vec F S1x512x128 .bf16) (q2 : Vec F S1024x256 .bf16) (u : ℕ) (hu : u < 4) (hc : 4 ≤ (i 1).val % 8)
    (h0 : ∀ a, k0_off6 i 0#32 a + S1.size a ≤ S8.size a) (h1 : ∀ a, k0_off6 i 1#32 a + S1.size a ≤ S8.size a)
    (h : ∀ a, (k0_off5 i (BitVec.ofNat 32 u)) a + S1x512x128.size a ≤ S1x16384x128.size a) :
    rawStep x0 x2 x3 x7 q2 (k0_off6 i 0#32) (k0_off6 i 1#32) h0 h1 (k0_off5 i (BitVec.ofNat 32 u)) h (toffB (BitVec.ofNat 32 (i 1).val) (Scalar.addi (base1 (BitVec.ofNat 32 (i 1).val)) (BitVec.ofNat 32 u)))
      = T x0 x2 x3 x7 q2 (i 0).val (i 1).val (8 * ((i 1).val / 8) + u) := by
  have hr := rows_lt i
  have hw := word_base (i 1)
  exact rawTail_eq i x0 x2 x3 x7 q2 _ _ h0 h1 _ h (base1 (BitVec.ofNat 32 (i 1).val)) (8 * ((i 1).val / 8)) u _ rfl rfl rfl hw.1 (by omega) (by omega) rfl

theorem tail2 (x0 : Vec F S8 .f32) (x2 x3 : Vec F S1x16384x128 .bf16) (x7 : Vec F S1x512x128 .bf16) (q2 : Vec F S1024x256 .bf16) (u : ℕ) (hu : u < 2) (hc : 2 ≤ (i 1).val % 4)
    (h0 : ∀ a, k0_off8 i 0#32 a + S1.size a ≤ S8.size a) (h1 : ∀ a, k0_off8 i 1#32 a + S1.size a ≤ S8.size a)
    (h : ∀ a, (k0_off7 i (BitVec.ofNat 32 u)) a + S1x512x128.size a ≤ S1x16384x128.size a) :
    rawStep x0 x2 x3 x7 q2 (k0_off8 i 0#32) (k0_off8 i 1#32) h0 h1 (k0_off7 i (BitVec.ofNat 32 u)) h (toffB (BitVec.ofNat 32 (i 1).val) (Scalar.addi (base2 (BitVec.ofNat 32 (i 1).val)) (BitVec.ofNat 32 u)))
      = T x0 x2 x3 x7 q2 (i 0).val (i 1).val (4 * ((i 1).val / 4) + u) := by
  have hr := rows_lt i
  have hw := word_base (i 1)
  exact rawTail_eq i x0 x2 x3 x7 q2 _ _ h0 h1 _ h (base2 (BitVec.ofNat 32 (i 1).val)) (4 * ((i 1).val / 4)) u _ rfl rfl rfl hw.2.1 (by omega) (by omega) rfl

theorem tail3 (x0 : Vec F S8 .f32) (x2 x3 : Vec F S1x16384x128 .bf16) (x7 : Vec F S1x512x128 .bf16) (q2 : Vec F S1024x256 .bf16)  (hc : 1 ≤ (i 1).val % 2)
    (h0 : ∀ a, k0_off10 i 0#32 a + S1.size a ≤ S8.size a) (h1 : ∀ a, k0_off10 i 1#32 a + S1.size a ≤ S8.size a)
    (h : ∀ a, (k0_off9 i) a + S1x512x128.size a ≤ S1x16384x128.size a) :
    rawStep x0 x2 x3 x7 q2 (k0_off10 i 0#32) (k0_off10 i 1#32) h0 h1 (k0_off9 i) h (toffB (BitVec.ofNat 32 (i 1).val) (Scalar.addi (base3 (BitVec.ofNat 32 (i 1).val)) (BitVec.ofNat 32 0)))
      = T x0 x2 x3 x7 q2 (i 0).val (i 1).val (2 * ((i 1).val / 2) + 0) := by
  have hr := rows_lt i
  have hw := word_base (i 1)
  exact rawTail_eq i x0 x2 x3 x7 q2 _ _ h0 h1 _ h (base3 (BitVec.ofNat 32 (i 1).val)) (2 * ((i 1).val / 2)) 0 _ rfl rfl rfl hw.2.2 (by omega) (by omega) rfl

theorem rawDiag_tile (x0 : Vec F S8 .f32) (x2 x3 : Vec F S1x16384x128 .bf16) (x4 : Vec F S1x512x512 .f32) (x7 : Vec F S1x512x128 .bf16) (q2 : Vec F S1024x256 .bf16)
    (h0 : ∀ a, k0_off12 i 0#32 a + S1.size a ≤ S8.size a) (h1 : ∀ a, k0_off12 i 1#32 a + S1.size a ≤ S8.size a)
    (h : ∀ a, k0_off11 i a + S1x512x128.size a ≤ S1x16384x128.size a) :
    rawDiag x0 x2 x3 x4 x7 q2 (k0_off12 i 0#32) (k0_off12 i 1#32) h0 h1 (k0_off11 i) h (k0_pay347 (BitVec.ofNat 32 (i 1).val))
      = TD x0 x2 x3 x4 x7 q2 (i 0).val (i 1).val := by
  have hz : Scalar.subi (BitVec.ofNat 32 (i 1).val) 0#32 = BitVec.ofNat 32 (i 1).val := BitVec.sub_zero _
  refine rawDiag_eq x0 x2 x3 x4 x7 q2 _ _ _ _ _ _ _ (i 0).val (i 1).val ?_ ?_ ?_ ?_
  · exact congrArg (fun m => ![m]) (word_slope (i 0) 0)
  · exact congrArg (fun m => ![m]) (word_slope (i 0) 1)
  · show ![0, (Scalar.muli (Scalar.subi (BitVec.ofNat 32 (i 1).val) 0#32) 512#32).toNat, 0] = _
    rw [hz]
    exact congrArg (fun m => ![0, m, 0]) (word_row (i 1))
  · show toffB (BitVec.ofNat 32 (i 1).val) (Scalar.subi (BitVec.ofNat 32 (i 1).val) 0#32) = _
    rw [hz]
    exact toffB_eq (i 1) (i 1)

theorem bits : (cond0_0 i ↔ 4 ≤ (i 1).val % 8) ∧ (cond0_1 i ↔ 2 ≤ (i 1).val % 4) ∧ (cond0_2 i ↔ 1 ≤ (i 1).val % 2) := by
  have h : ∀ a : Fin 4, ∀ b : Fin 32, (cond0_0 (fun d => match d with | ⟨0, _⟩ => a | ⟨1, _⟩ => b) ↔ 4 ≤ b.val % 8) ∧
      (cond0_1 (fun d => match d with | ⟨0, _⟩ => a | ⟨1, _⟩ => b) ↔ 2 ≤ b.val % 4) ∧
      (cond0_2 (fun d => match d with | ⟨0, _⟩ => a | ⟨1, _⟩ => b) ↔ 1 ≤ b.val % 2) := by decide +kernel
  have e : i = (fun d => match d with | ⟨0, _⟩ => i 0 | ⟨1, _⟩ => i 1) := by
    funext d
    match d with
    | ⟨0, _⟩ => rfl
    | ⟨1, _⟩ => rfl
  have := h (i 0) (i 1)
  rw [← e] at this
  exact this

theorem steps_four (g : ℕ → St F → St F) (n : ℕ) (st : St F) : steps g (n + 4) st = g (n + 3) (g (n + 2) (g (n + 1) (g n (steps g n st)))) := rfl
theorem steps_two (g : ℕ → St F → St F) (n : ℕ) (st : St F) : steps g (n + 2) st = g (n + 1) (g n (steps g n st)) := rfl
theorem steps_one (g : ℕ → St F → St F) (n : ℕ) (st : St F) : steps g (n + 1) st = g n (steps g n st) := rfl

theorem init_eq (arg13 : Memref sig .tc .vmem S1024x128 .f32) (arg14 : Memref sig .tc .vmem S1024x256 .f32)
    (f : BufTy.Contents (Elt F) arg13.view.ty) (g : BufTy.Contents (Elt F) arg14.view.ty) :
    stOf arg13 arg14 (arg13.view.writes (Elt F) f [⟨Rect.unit ![0, 0] S1024x128.size inb_S1024x128_S1024x128_0_0, k0_pay361⟩])
      (arg14.view.writes (Elt F) g [⟨Rect.unit ![0, 0] S1024x256.size inb_S1024x256_S1024x256_0_0, k0_pay362⟩]) = init := by
  unfold stOf init
  rw [View.readAt_eq_ld, View.readAt_eq_ld, View.readAt_eq_ld, View.read_writes_full, View.read_writes_full]
  rfl

end Cert.KernelIdeal.Attn
end
-- ==== Proof.Cases.lean ====
/- What the shapes of a grid point's run leave in the result block: all the same function. -/
module

public import proofs.«01_k».proof.Proof.Block

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

variable (c : Dev nD) (i : grid0.Coords)
  (arg2 : Memref sig .tc .smem S8 .f32) (harg2 : arg2.IsWhole) (arg3 : Memref sig .tc .vmem S1x512x128 .bf16) (harg3 : arg3.IsWhole)
  (arg4 : Memref sig .tc .vmem S1x16384x128 .bf16) (harg4 : arg4.IsWhole) (arg5 : Memref sig .tc .vmem S1x16384x128 .bf16) (harg5 : arg5.IsWhole)
  (arg6 : Memref sig .tc .vmem S1x512x512 .f32) (harg6 : arg6.IsWhole) (arg7 : Memref sig .tc .vmem S8x128 .f32) (harg7 : arg7.IsWhole)
  (arg8 : Memref sig .tc .vmem S1x128 .f32) (harg8 : arg8.IsWhole) (arg9 : Memref sig .tc .vmem S1x512x128 .bf16) (harg9 : arg9.IsWhole)
  (arg10 : Memref sig .tc .vmem S1024x128 .bf16) (harg10 : arg10.IsWhole) (arg11 : Memref sig .tc .vmem S1x512x128 .bf16) (harg11 : arg11.IsWhole)
  (arg12 : Memref sig .tc .vmem S1024x256 .bf16) (harg12 : arg12.IsWhole) (arg13 : Memref sig .tc .vmem S1024x128 .f32) (harg13 : arg13.IsWhole)
  (arg14 : Memref sig .tc .vmem S1024x256 .f32) (harg14 : arg14.IsWhole)

attribute [local irreducible] pb_k0_t1

theorem readAt_unread {s : Shape} {e : EltTy} {κ : Kind} {sp : Space} {m : Memref sig κ sp s e} (h : m.IsWhole) (X : Vec F s e) (r : Rect s) :
    m.view.readAt (Elt F) r.toLoadRect (h.unread X) = View.ld X r := by
  rw [View.readAt_eq_ld, h.read_unread]

theorem readCov_def {s : Shape} {e : EltTy} {κ : Kind} {sp : Space} (v : View sig κ sp s e) (L : List (View.Piece (Elt F) s e)) (B : LoadRect s) :
    v.readCov L B = v.readAt (Elt F) B (v.writes (Elt F) v.junk L) := rfl

set_option pp.maxSteps 400 in
set_option maxHeartbeats 4000000 in
theorem block_A (hc0 : ¬cond0_0 i) (hc1 : ¬cond0_1 i) (hc2 : ¬cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_A
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [View.ld_unit_zero z3, View.ld_unit_zero z2]
  have e : 8 * ((i 1).val / 8) = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_B (hc0 : ¬cond0_0 i) (hc1 : ¬cond0_1 i) (hc2 : cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_B
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off10 i 0#32) (k0_off10 i 1#32) (k0_off10_inb i hc2 0) (k0_off10_inb i hc2 1) (k0_off9 i) (k0_off9_inb i hc2) (toffB (BitVec.ofNat 32 (i 1).val) (Scalar.addi (base3 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2)))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail3 i x0 x2 x3 x7 _  h2]
  rw [View.ld_unit_zero z3, View.ld_unit_zero z2]
  rw [show 2 * ((i 1).val / 2) = 8 * ((i 1).val / 8) by omega]
  have e : 8 * ((i 1).val / 8) + 1 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_C (hc0 : ¬cond0_0 i) (hc1 : cond0_1 i) (hc2 : ¬cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_C
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 1)) (k0_off7_inb i hc1 1) (toffB (BitVec.ofNat 32 (i 1).val) (Scalar.addi (base2 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 0)) (k0_off7_inb i hc1 0) (toffB (BitVec.ofNat 32 (i 1).val) (Scalar.addi (base2 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail2 i x0 x2 x3 x7 _ 1 (by omega) h1]
  rw [tail2 i x0 x2 x3 x7 _ 0 (by omega) h1]
  rw [View.ld_unit_zero z3, View.ld_unit_zero z2]
  rw [show 4 * ((i 1).val / 4) = 8 * ((i 1).val / 8) by omega]
  have e : 8 * ((i 1).val / 8) + 2 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_D (hc0 : ¬cond0_0 i) (hc1 : cond0_1 i) (hc2 : cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_D_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_D_9
  rw [View.read_writes_eq_canon _ _ _ (cover0_D_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_D
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off10 i 0#32) (k0_off10 i 1#32) (k0_off10_inb i hc2 0) (k0_off10_inb i hc2 1) (k0_off9 i) (k0_off9_inb i hc2) (toffB (BitVec.ofNat 32 (i 1).val) (Scalar.addi (base3 (BitVec.ofNat 32 (i 1).val)) (BitVec.ofNat 32 0)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 1)) (k0_off7_inb i hc1 1) (toffB (BitVec.ofNat 32 (i 1).val) (Scalar.addi (base2 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 0)) (k0_off7_inb i hc1 0) (toffB (BitVec.ofNat 32 (i 1).val) (Scalar.addi (base2 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2)))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail3 i x0 x2 x3 x7 _  h2]
  rw [tail2 i x0 x2 x3 x7 _ 1 (by omega) h1]
  rw [tail2 i x0 x2 x3 x7 _ 0 (by omega) h1]
  rw [View.ld_unit_zero z3, View.ld_unit_zero z2]
  rw [show 4 * ((i 1).val / 4) = 8 * ((i 1).val / 8) by omega, show 2 * ((i 1).val / 2) = 8 * ((i 1).val / 8) + 2 by omega]
  have e : 8 * ((i 1).val / 8) + 2 + 1 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_E (hc0 : cond0_0 i) (hc1 : ¬cond0_1 i) (hc2 : ¬cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_E_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_E_9
  rw [View.read_writes_eq_canon _ _ _ (cover0_E_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_E
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 3)) (k0_off5_inb i hc0 3) (toffB (BitVec.ofNat 32 (i 1).val) (Scalar.addi (base1 (BitVec.ofNat 32 (i 1).val)) (BitVec.ofNat 32 3)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 2)) (k0_off5_inb i hc0 2) (toffB (BitVec.ofNat 32 (i 1).val) (Scalar.addi (base1 (BitVec.ofNat 32 (i 1).val)) (BitVec.ofNat 32 2)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 1)) (k0_off5_inb i hc0 1) (toffB (BitVec.ofNat 32 (i 1).val) (Scalar.addi (base1 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 0)) (k0_off5_inb i hc0 0) (toffB (BitVec.ofNat 32 (i 1).val) (Scalar.addi (base1 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2))))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail1 i x0 x2 x3 x7 _ 3 (by omega) h0]
  rw [tail1 i x0 x2 x3 x7 _ 2 (by omega) h0]
  rw [tail1 i x0 x2 x3 x7 _ 1 (by omega) h0]
  rw [tail1 i x0 x2 x3 x7 _ 0 (by omega) h0]
  rw [View.ld_unit_zero z3, View.ld_unit_zero z2]
  have e : 8 * ((i 1).val / 8) + 4 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_F (hc0 : cond0_0 i) (hc1 : ¬cond0_1 i) (hc2 : cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_F_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_F_9
  rw [View.read_writes_eq_canon _ _ _ (cover0_F_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_F
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off10 i 0#32) (k0_off10 i 1#32) (k0_off10_inb i hc2 0) (k0_off10_inb i hc2 1) (k0_off9 i) (k0_off9_inb i hc2) (toffB (BitVec.ofNat 32 (i 1).val) (Scalar.addi (base3 (BitVec.ofNat 32 (i 1).val)) (BitVec.ofNat 32 0)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 3)) (k0_off5_inb i hc0 3) (toffB (BitVec.ofNat 32 (i 1).val) (Scalar.addi (base1 (BitVec.ofNat 32 (i 1).val)) (BitVec.ofNat 32 3)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 2)) (k0_off5_inb i hc0 2) (toffB (BitVec.ofNat 32 (i 1).val) (Scalar.addi (base1 (BitVec.ofNat 32 (i 1).val)) (BitVec.ofNat 32 2)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 1)) (k0_off5_inb i hc0 1) (toffB (BitVec.ofNat 32 (i 1).val) (Scalar.addi (base1 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 0)) (k0_off5_inb i hc0 0) (toffB (BitVec.ofNat 32 (i 1).val) (Scalar.addi (base1 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2)))))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail3 i x0 x2 x3 x7 _  h2]
  rw [tail1 i x0 x2 x3 x7 _ 3 (by omega) h0]
  rw [tail1 i x0 x2 x3 x7 _ 2 (by omega) h0]
  rw [tail1 i x0 x2 x3 x7 _ 1 (by omega) h0]
  rw [tail1 i x0 x2 x3 x7 _ 0 (by omega) h0]
  rw [View.ld_unit_zero z3, View.ld_unit_zero z2]
  rw [show 2 * ((i 1).val / 2) = 8 * ((i 1).val / 8) + 4 by omega]
  have e : 8 * ((i 1).val / 8) + 4 + 1 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_G (hc0 : cond0_0 i) (hc1 : cond0_1 i) (hc2 : ¬cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_G_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_G_9
  rw [View.read_writes_eq_canon _ _ _ (cover0_G_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_G
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 1)) (k0_off7_inb i hc1 1) (toffB (BitVec.ofNat 32 (i 1).val) (Scalar.addi (base2 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 0)) (k0_off7_inb i hc1 0) (toffB (BitVec.ofNat 32 (i 1).val) (Scalar.addi (base2 (BitVec.ofNat 32 (i 1).val)) (BitVec.ofNat 32 0)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 3)) (k0_off5_inb i hc0 3) (toffB (BitVec.ofNat 32 (i 1).val) (Scalar.addi (base1 (BitVec.ofNat 32 (i 1).val)) (BitVec.ofNat 32 3)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 2)) (k0_off5_inb i hc0 2) (toffB (BitVec.ofNat 32 (i 1).val) (Scalar.addi (base1 (BitVec.ofNat 32 (i 1).val)) (BitVec.ofNat 32 2)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 1)) (k0_off5_inb i hc0 1) (toffB (BitVec.ofNat 32 (i 1).val) (Scalar.addi (base1 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 0)) (k0_off5_inb i hc0 0) (toffB (BitVec.ofNat 32 (i 1).val) (Scalar.addi (base1 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2))))))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail2 i x0 x2 x3 x7 _ 1 (by omega) h1]
  rw [tail2 i x0 x2 x3 x7 _ 0 (by omega) h1]
  rw [tail1 i x0 x2 x3 x7 _ 3 (by omega) h0]
  rw [tail1 i x0 x2 x3 x7 _ 2 (by omega) h0]
  rw [tail1 i x0 x2 x3 x7 _ 1 (by omega) h0]
  rw [tail1 i x0 x2 x3 x7 _ 0 (by omega) h0]
  rw [View.ld_unit_zero z3, View.ld_unit_zero z2]
  rw [show 4 * ((i 1).val / 4) = 8 * ((i 1).val / 8) + 4 by omega]
  have e : 8 * ((i 1).val / 8) + 4 + 2 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

set_option pp.maxSteps 400 in
set_option maxHeartbeats 4000000 in
theorem block_H (hc0 : cond0_0 i) (hc1 : cond0_1 i) (hc2 : cond0_2 i) (hc3 : cond0_3 i)
    (x0 : Vec F S8 .f32) (x1 : Vec F S1x512x128 .bf16) (x2 x3 : Vec F S1x16384x128 .bf16) (x4 : Vec F S1x512x512 .f32)
    (x5 : Vec F S8x128 .f32) (x6 : Vec F S1x128 .f32) (x7 : Vec F S1x512x128 .bf16) (x8 : Vec F S1024x128 .bf16) :
    out0_H_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 = attnOut x0 x1 x2 x3 x4 x5 x6 x7 x8 (i 0).val (i 1).val := by
  have hr := rows_lt i
  have h0 := hc0
  have h1 := hc1
  have h2 := hc2
  rw [(bits i).1] at h0
  rw [(bits i).2.1] at h1
  rw [(bits i).2.2] at h2
  unfold out0_H_9
  rw [View.read_writes_eq_canon _ _ _ (cover0_H_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_H
  dsimp only
  sl_unfold_run_names
  rw [View.canon_unit_zero z3]
  simp (disch := decide) only [↓ readAt_skip, ↓ readAt_hit, ↓ View.readCov_skip, ↓ View.readCov_cons_toLoadRect, readCov_def, View.writes_append, pb2_nil, List.nil_append, View.writes_nil]
  rw [pb2_nil]
  simp only [readAt_unread, View.writes_nil]
  show finalOut x5 x6 (rawDiag x0 x2 x3 x4 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off12 i 0#32) (k0_off12 i 1#32) (k0_off12_inb i hc3 0) (k0_off12_inb i hc3 1) (k0_off11 i) (k0_off11_inb i hc3) (k0_pay347 (BitVec.ofNat 32 (i 1).val))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off10 i 0#32) (k0_off10 i 1#32) (k0_off10_inb i hc2 0) (k0_off10_inb i hc2 1) (k0_off9 i) (k0_off9_inb i hc2) (toffB (BitVec.ofNat 32 (i 1).val) (Scalar.addi (base3 (BitVec.ofNat 32 (i 1).val)) (BitVec.ofNat 32 0)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 1)) (k0_off7_inb i hc1 1) (toffB (BitVec.ofNat 32 (i 1).val) (Scalar.addi (base2 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off8 i 0#32) (k0_off8 i 1#32) (k0_off8_inb i hc1 0) (k0_off8_inb i hc1 1) (k0_off7 i (BitVec.ofNat 32 0)) (k0_off7_inb i hc1 0) (toffB (BitVec.ofNat 32 (i 1).val) (Scalar.addi (base2 (BitVec.ofNat 32 (i 1).val)) (BitVec.ofNat 32 0)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 3)) (k0_off5_inb i hc0 3) (toffB (BitVec.ofNat 32 (i 1).val) (Scalar.addi (base1 (BitVec.ofNat 32 (i 1).val)) (BitVec.ofNat 32 3)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 2)) (k0_off5_inb i hc0 2) (toffB (BitVec.ofNat 32 (i 1).val) (Scalar.addi (base1 (BitVec.ofNat 32 (i 1).val)) (BitVec.ofNat 32 2)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 1)) (k0_off5_inb i hc0 1) (toffB (BitVec.ofNat 32 (i 1).val) (Scalar.addi (base1 (BitVec.ofNat 32 (i 1).val)) (BitVec.ofNat 32 1)))
      (rawStep x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) (k0_off6 i 0#32) (k0_off6 i 1#32) (k0_off6_inb i hc0 0) (k0_off6_inb i hc0 1) (k0_off5 i (BitVec.ofNat 32 0)) (k0_off5_inb i hc0 0) (toffB (BitVec.ofNat 32 (i 1).val) (Scalar.addi (base1 (BitVec.ofNat 32 (i 1).val)) (BitVec.ofNat 32 0)))
      (stOf arg13 arg14 (arg13.view.writes (Elt F) (arg13.view.writes (Elt F) arg13.view.junk [⟨Rect.unit ![0, 0] S1024x128.size inb_S1024x128_S1024x128_0_0, k0_pay361⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).1) (arg14.view.writes (Elt F) (arg14.view.writes (Elt F) arg14.view.junk [⟨Rect.unit ![0, 0] S1024x256.size inb_S1024x256_S1024x256_0_0, k0_pay362⟩]) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay363 (nW (BitVec.ofNat 32 (i 1).val)) (Scalar.shrsi (Scalar.subi (nW (BitVec.ofNat 32 (i 1).val)) 0#32) 3#32) 0#32 (harg2.unread x0) (harg4.unread x2) (harg5.unread x3) (harg9.unread x7) (arg12.view.writes (Elt F) arg12.view.junk [⟨Rect.unit ![0, 0] S1024x256.size inb_S1024x256_S1024x256_0_0, (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0)))⟩]) (arg13.view.writes (Elt F) arg13.view.junk [⟨Rect.unit ![0, 0] S1024x128.size inb_S1024x128_S1024x128_0_0, k0_pay361⟩]) (arg14.view.writes (Elt F) arg14.view.junk [⟨Rect.unit ![0, 0] S1024x256.size inb_S1024x256_S1024x256_0_0, k0_pay362⟩]) (k0_t1_loop i).trips).2)))))))))).2.2 = _
  rw [loop_state c i arg2 harg2 arg3 harg3 arg4 harg4 arg5 harg5 arg6 harg6 arg7 harg7 arg8 harg8 arg9 harg9 arg10 harg10 arg11 harg11 arg12 harg12 arg13 harg13 arg14 harg14 _ _ x0 x2 x3 x7 (k0_pay360 (View.ld x1 (Rect.unit (s := S1x512x128) ![0, 0, 0] S1x512x128.size inb_S1x512x128_S1x512x128_0_0_0)) (View.ld x8 (Rect.unit (s := S1024x128) ![0, 0] S1024x128.size inb_S1024x128_S1024x128_0_0))) _ (View.readAt_writes_full _ _ _ _ _ _) _ _ _ (Nat.le_refl _), init_eq, trips_eq, rawDiag_tile]
  rw [tail3 i x0 x2 x3 x7 _  h2]
  rw [tail2 i x0 x2 x3 x7 _ 1 (by omega) h1]
  rw [tail2 i x0 x2 x3 x7 _ 0 (by omega) h1]
  rw [tail1 i x0 x2 x3 x7 _ 3 (by omega) h0]
  rw [tail1 i x0 x2 x3 x7 _ 2 (by omega) h0]
  rw [tail1 i x0 x2 x3 x7 _ 1 (by omega) h0]
  rw [tail1 i x0 x2 x3 x7 _ 0 (by omega) h0]
  rw [View.ld_unit_zero z3, View.ld_unit_zero z2]
  rw [show 4 * ((i 1).val / 4) = 8 * ((i 1).val / 8) + 4 by omega, show 2 * ((i 1).val / 2) = 8 * ((i 1).val / 8) + 4 + 2 by omega]
  have e : 8 * ((i 1).val / 8) + 4 + 2 + 1 = (i 1).val := by omega
  have hs := congrArg (fun n => steps (T x0 x2 x3 x7 (k0_pay360 x1 x8) (i 0).val (i 1).val) n init) e
  exact congrArg (fun s => finalOut x5 x6 (TD x0 x2 x3 x4 x7 (k0_pay360 x1 x8) (i 0).val (i 1).val s).2.2) hs

end Cert.KernelIdeal.Attn
end
-- ==== Proof.Common.lean ====
/- The attention's mathematics on the reals, which the kernel and the reference both come to. -/
module

public import Idealize.ShloMosaic.Lib.Pointwise
public import Idealize.ShloMosaic.Lib.IdealHost
public import Idealize.ShloMosaic.Lib.WordCmp

@[expose] public section

noncomputable section

open Idealize.ShloMosaic

namespace Cert.Attn

/-- A real sum, read on the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real that is neither infinity. -/
def Fin' (x : EReal) : Prop := x = ((x.toReal : ℝ) : EReal)

theorem Fin'.eq {x : EReal} (h : Fin' x) : ((x.toReal : ℝ) : EReal) = x := h.symm

theorem fin'_coe (x : ℝ) : Fin' (x : EReal) := by unfold Fin'; rw [EReal.toReal_coe]

theorem fin'_of {x : EReal} (h : ∃ r : ℝ, x = r) : Fin' x := by
  obtain ⟨r, rfl⟩ := h; exact fin'_coe r

/-! ## Literals -/

theorem ofBits_bot : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_neg8 : ∃ x : ℝ, Ideal.ofBits .f32 0xC1000000#32 = (x : EReal) := by
  simp [Ideal.ofBits, Ideal.ieee, -EReal.coe_mul]; exact ⟨_, rfl⟩
theorem ofBits_ln2 : ∃ x : ℝ, Ideal.ofBits .f32 0x3F317218#32 = (x : EReal) := by
  simp [Ideal.ofBits, Ideal.ieee, -EReal.coe_mul]
theorem ofBits_tiny : ∃ x : ℝ, Ideal.ofBits .f32 0x0DA24260#32 = (x : EReal) ∧ x ≤ 1 := by
  simp [Ideal.ofBits, Ideal.ieee, -EReal.coe_mul]; norm_num

/-! ## The slopes -/

/-- The slope of head `h`. -/
def slopeE (h : ℕ) : EReal :=
  Ideal.exp (Ideal.ofBits .f32 0x3F317218#32 * Ideal.div (Ideal.ofBits .f32 0xC1000000#32 * (1 + Scalar.sitofp (F := Ideal) .f32 (BitVec.ofNat 32 h)))
    (Ideal.ofBits .f32 0x40800000#32))

def slopeR (h : ℕ) : ℝ := (slopeE h).toReal

theorem slopeE_coe (h : ℕ) : slopeE h = (slopeR h : EReal) := by
  refine fin'_of ?_
  unfold slopeE
  obtain ⟨a, ha⟩ := ofBits_neg8
  obtain ⟨b, hb⟩ := ofBits_ln2
  rw [ha, hb, ofBits_four, Ideal.scalar_sitofp_def, ← EReal.coe_one, ← EReal.coe_add, ← EReal.coe_mul, Ideal.div_coe four_ne_zero,
    ← EReal.coe_mul, ← EReal.coe_mul, Ideal.exp_coe]
  exact ⟨_, rfl⟩

/-! ## A row's softmax over the columns it sees -/

/-- The exponential of a column's score, nothing past the row's own column. -/
def seen (R c : ℕ) (x : ℝ) : ℝ := if c ≤ R then Real.exp x else 0

theorem seen_nonneg (R c : ℕ) (x : ℝ) : 0 ≤ seen R c x := by
  unfold seen; split
  · exact (Real.exp_pos x).le
  · exact le_rfl

/-- The values averaged under the softmax of the scores `e`. -/
def soft (R : ℕ) (e v : ℕ → ℝ) : ℝ :=
  (∑ c ∈ Finset.range 16384, seen R c (e c) * v c) / (∑ c ∈ Finset.range 16384, seen R c (e c))

theorem den_pos (R : ℕ) (hR : R < 16384) (e : ℕ → ℝ) : 0 < ∑ c ∈ Finset.range 16384, seen R c (e c) :=
  Finset.sum_pos' (fun c _ => seen_nonneg R c _) ⟨R, Finset.mem_range.mpr hR, by unfold seen; rw [if_pos le_rfl]; exact Real.exp_pos _⟩

variable (q1 q2 k1 k2 : Fin 16384 → Fin 4 → Fin 64 → EReal) (v : Fin 16384 → Fin 4 → Fin 128 → EReal)

/-- The column's index, as one of the 16384. -/
def col (c : ℕ) : Fin 16384 := ⟨c % 16384, Nat.mod_lt _ (by decide)⟩

theorem col_val (c : Fin 16384) : col c.val = c := Fin.ext (Nat.mod_eq_of_lt c.isLt)

/-- One map's score of a row against a column. -/
def score (q k : Fin 16384 → Fin 4 → Fin 64 → EReal) (h : Fin 4) (r : Fin 16384) (c : ℕ) : ℝ :=
  (∑ d, (q r h d).toReal * (k (col c) h d).toReal) * (1 / 8) - slopeR h.val * ((r.val : ℝ) - c)

/-- A lane of the values, by the column. -/
def vals (h : Fin 4) (l : Fin 128) (c : ℕ) : ℝ := (v (col c) h l).toReal

/-- The weight of the second map. -/
def lamR (a5 a6 a7 a8 : Fin 64 → EReal) (a9 : EReal) : ℝ :=
  Real.exp (∑ x, (a5 x).toReal * (a6 x).toReal) - Real.exp (∑ x, (a7 x).toReal * (a8 x).toReal) + a9.toReal

/-- The difference of the two maps, applied to the values. -/
def diffR (lam : ℝ) (h : Fin 4) (r : Fin 16384) (l : Fin 128) : ℝ :=
  soft r.val (score q1 k1 h r) (vals v h l) - lam * soft r.val (score q2 k2 h r) (vals v h l)

/-- The norm of a row, its gain and the final scale. -/
def normed (o : Fin 128 → ℝ) (g a9 : EReal) (l : Fin 128) : EReal :=
  (o l : EReal) * Ideal.rsqrt (Ideal.div (∑ x, (o x : EReal) * (o x : EReal)) (Ideal.ofBits .f32 0x43000000#32) + Ideal.ofBits .f32 0x358637BD#32)
    * g * (1 - a9)

/-- An element of the result. -/
def result (a5 a6 a7 a8 : Fin 64 → EReal) (a9 : EReal) (g : Fin 128 → EReal) (h : Fin 4) (r : Fin 16384) (l : Fin 128) : EReal :=
  normed (diffR q1 q2 k1 k2 v (lamR a5 a6 a7 a8 a9) h r) (g l) a9 l

end Cert.Attn
end
-- ==== Proof.Soft.lean ====
/- Weighted sums over the columns a row sees, and what one tile does to a row's maximum and sums. -/
module

public import proofs.«01_k».proof.Proof.Block
public import proofs.«01_k».proof.Proof.Common

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

/-- The weight of column `c` in row `R`: two to the score less the stored maximum, nothing past the row's own column. -/
def wt (c R : ℕ) (t μ : ℝ) : ℝ := if c ≤ R then (2 : ℝ) ^ (t - μ) else 0

theorem wt_shift (c R : ℕ) (t μ ν : ℝ) : (2 : ℝ) ^ (μ - ν) * wt c R t μ = wt c R t ν := by
  unfold wt
  split
  · rw [← Real.rpow_add two_pos]; congr 1; ring
  · exact mul_zero _

theorem max_real (μ : ℝ) (x : EReal) (h : x ≠ ⊤) : ∃ ν : ℝ, max (μ : EReal) x = ν := by
  induction x with
  | bot => exact ⟨μ, max_bot_right _⟩
  | top => exact absurd rfl h
  | coe x => exact ⟨max μ x, (EReal.coe_strictMono.monotone.map_max).symm⟩

/-! ## The new maximum, the weights and the sums of a row -/

theorem newM_real (s : FVec Ideal S512x512 .f32) (off : Ideal .f32) (m : Vec Ideal S512x128 .f32) (r : Fin 512) (μ o : ℝ)
    (hm : ∀ l : Fin 128, m (ix2 r l) = (μ : EReal)) (ho : off = (o : EReal)) (hs : ∀ k : Fin 512, s (ix2 r k) ≠ (⊤ : EReal)) :
    ∃ ν : ℝ, ∀ l : Fin 128, newM s off m (ix2 r l) = (ν : EReal) := by
  have hx : (Finset.fold max (⊥ : EReal) (fun x : Fin 512 => s (ix2 r x)) Finset.univ) + (o : EReal) ≠ ⊤ := by
    refine (EReal.add_lt_top ?_ (EReal.coe_ne_top o)).ne
    exact ((Finset.fold_max_lt (⊤ : EReal)).mpr ⟨bot_lt_top, fun k _ => lt_top_iff_ne_top.mpr (hs k)⟩).ne
  obtain ⟨ν, h⟩ := max_real μ _ hx
  refine ⟨ν, fun l => ?_⟩
  pointwise [newM]
  rw [hm l, ho, ofBits_bot]
  exact h

theorem wts_real (s : FVec Ideal S512x512 .f32) (off : Ideal .f32) (m : FVec Ideal S512x128 .f32) (r k : Fin 512) (c R : ℕ) (t μ o : ℝ)
    (hm : ∀ l : Fin 128, m (ix2 r l) = (μ : EReal)) (ho : off = (o : EReal))
    (hs : s (ix2 r k) = if c ≤ R then (t : EReal) else ⊥) :
    wts s off m (ix2 r k) = ((wt c R (t + o) μ : ℝ) : EReal) := by
  pointwise [wts]
  simp only [hm, ho, hs, dite_eq_ite, ite_self]
  unfold wt
  split
  · show Ideal.exp2 ((t : EReal) - ((μ : EReal) - (o : EReal))) = _
    rw [← EReal.coe_sub, ← EReal.coe_sub, Ideal.exp2_coe]
    congr 1
    show (2 : ℝ) ^ (t - (μ - o)) = _
    congr 1; ring
  · show Ideal.exp2 ((⊥ : EReal) - ((μ : EReal) - (o : EReal))) = _
    rw [EReal.bot_sub]; rfl

theorem scale_real (m n : FVec Ideal S512x128 .f32) (r : Fin 512) (μ ν : ℝ)
    (hm : ∀ l : Fin 128, m (ix2 r l) = (μ : EReal)) (hn : ∀ l : Fin 128, n (ix2 r l) = (ν : EReal)) (l : Fin 128) :
    exp2 (subf m n) (ix2 r l) = (((2 : ℝ) ^ (μ - ν) : ℝ) : EReal) := by
  pointwise
  rw [hm, hn]
  show Ideal.exp2 ((μ : EReal) - (ν : EReal)) = _
  rw [← EReal.coe_sub, Ideal.exp2_coe]; rfl

/-- The values a tile's weights are summed against: the tile's values, and a one for the sum of the weights itself. -/
def cols (v : Fin 512 → Fin 128 → ℝ) (k : Fin 512) (l : Fin 256) : ℝ := if h : l.val < 128 then v k ⟨l.val, h⟩ else 1

theorem cols_real (vb : Vec Ideal S1x512x128 .bf16) (v : Fin 512 → Fin 128 → ℝ) (hv : ∀ k l, vb (ix3 0 k l) = (v k l : EReal))
    (k : Fin 512) (l : Fin 256) :
    (if h : l.val < 128 then vb (ix3 0 k ⟨l.val, h⟩) else (1 : EReal)) = ((cols v k l : ℝ) : EReal) := by
  unfold cols
  split
  · exact hv _ _
  · exact EReal.coe_one.symm

theorem newA_top (pT pB : FVec Ideal S512x512 .bf16) (aT aB : FVec Ideal S512x128 .f32)
    (vb : Vec Ideal S1x512x128 .bf16) (a : Vec Ideal S1024x256 .f32) (r : Fin 512) (l : Fin 256) (v : Fin 512 → Fin 128 → ℝ)
    (α A : ℝ) (p : Fin 512 → ℝ)
    (hp : ∀ k, pT (ix2 r k) = (p k : EReal)) (hα : ∀ l, aT (ix2 r l) = (α : EReal)) (hv : ∀ k l, vb (ix3 0 k l) = (v k l : EReal))
    (hA : a (ix2 ⟨r.val, by omega⟩ l) = (A : EReal)) :
    newA pT pB aT aB k0_pay363 vb a (ix2 ⟨r.val, by omega⟩ l) = ((α * A + ∑ k, p k * cols v k l : ℝ) : EReal) := by
  pointwise [newA, k0_pay363]
  simp only [r.isLt, dite_true, Fin.eta, hα, hp, hA, cols_real vb v hv, dite_eq_ite, ite_self]
  rw [EReal.coe_add, EReal.coe_mul, coe_sum']
  simp only [EReal.coe_mul]

theorem newA_bot (pT pB : FVec Ideal S512x512 .bf16) (aT aB : FVec Ideal S512x128 .f32)
    (vb : Vec Ideal S1x512x128 .bf16) (a : Vec Ideal S1024x256 .f32) (r : Fin 512) (l : Fin 256) (v : Fin 512 → Fin 128 → ℝ)
    (α A : ℝ) (p : Fin 512 → ℝ)
    (hp : ∀ k, pB (ix2 r k) = (p k : EReal)) (hα : ∀ l, aB (ix2 r l) = (α : EReal)) (hv : ∀ k l, vb (ix3 0 k l) = (v k l : EReal))
    (hA : a (ix2 ⟨512 + r.val, by omega⟩ l) = (A : EReal)) :
    newA pT pB aT aB k0_pay363 vb a (ix2 ⟨512 + r.val, by omega⟩ l) = ((α * A + ∑ k, p k * cols v k l : ℝ) : EReal) := by
  have h0 : ¬ 512 + r.val < 512 := by omega
  have h1 : ∀ h, (⟨512 + r.val - 512, h⟩ : Fin 512) = r := fun h => Fin.ext (by show 512 + r.val - 512 = r.val; omega)
  pointwise [newA, k0_pay363]
  simp only [h0, dite_false, h1, hα, hp, hA, cols_real vb v hv, dite_eq_ite, ite_self]
  rw [EReal.coe_add, EReal.coe_mul, coe_sum']
  simp only [EReal.coe_mul]

/-! ## A row after `n` tiles -/

/-- A row's maximum is one real, and its sums are the weighted sums over `n` tiles under that maximum. -/
def RowOK (R : ℕ) (t : ℕ → Fin 512 → ℝ) (v : ℕ → Fin 512 → Fin 128 → ℝ) (n : ℕ) (m : Fin 128 → EReal) (a : Fin 256 → EReal) : Prop :=
  ∃ μ : ℝ, (∀ l, m l = μ) ∧ ∀ l, a l = ((∑ j ∈ Finset.range n, ∑ k, wt (512 * j + k.val) R (t j k) μ * cols (v j) k l : ℝ) : EReal)

theorem shift_sum (R : ℕ) (t : ℕ → Fin 512 → ℝ) (v : ℕ → Fin 512 → Fin 128 → ℝ) (n : ℕ) (μ ν : ℝ) (l : Fin 256) :
    (2 : ℝ) ^ (μ - ν) * (∑ j ∈ Finset.range n, ∑ k, wt (512 * j + k.val) R (t j k) μ * cols (v j) k l)
      = ∑ j ∈ Finset.range n, ∑ k, wt (512 * j + k.val) R (t j k) ν * cols (v j) k l := by
  rw [Finset.mul_sum]
  refine Finset.sum_congr rfl fun j _ => ?_
  rw [Finset.mul_sum]
  refine Finset.sum_congr rfl fun k _ => ?_
  rw [← mul_assoc, wt_shift]

/-- Both maps' rows after `n` tiles. -/
def OK (R : Fin 512 → ℕ) (t1 t2 : Fin 512 → ℕ → Fin 512 → ℝ) (v : ℕ → Fin 512 → Fin 128 → ℝ) (n : ℕ) (st : St Ideal) : Prop :=
  ∀ r : Fin 512, RowOK (R r) (t1 r) v n (fun l => st.1 (ix2 r l)) (fun l => st.2.2 (ix2 ⟨r.val, by omega⟩ l)) ∧
    RowOK (R r) (t2 r) v n (fun l => st.2.1 (ix2 r l)) (fun l => st.2.2 (ix2 ⟨512 + r.val, by omega⟩ l))

theorem scast {s : Shape} {α : Type} (x : s.Idx → α) (h : s.ShapeCasts s) : shapeCast s x h = x := shapeCast_self x h

theorem ok_step (R : Fin 512 → ℕ) (t1 t2 : Fin 512 → ℕ → Fin 512 → ℝ) (v : ℕ → Fin 512 → Fin 128 → ℝ) (n : ℕ) (st : St Ideal)
    (sl0 sl1 toff : Ideal .f32) (sT sB : FVec Ideal S512x512 .f32) (vb : Vec Ideal S1x512x128 .bf16) (o1 o2 : ℝ)
    (h1 : Scalar.mulf sl0 toff = (o1 : EReal)) (h2 : Scalar.mulf sl1 toff = (o2 : EReal))
    (hv : ∀ k l, vb (ix3 0 k l) = (v n k l : EReal))
    (hT : ∀ r k, sT (ix2 r k) = if 512 * n + k.val ≤ R r then ((t1 r n k - o1 : ℝ) : EReal) else ⊥)
    (hB : ∀ r k, sB (ix2 r k) = if 512 * n + k.val ≤ R r then ((t2 r n k - o2 : ℝ) : EReal) else ⊥)
    (h : OK R t1 t2 v n st) : OK R t1 t2 v (n + 1) (tileStep k0_pay363 sl0 sl1 sT sB toff vb st) := by
  have ne : ∀ (c d : ℕ) (x : ℝ), (if c ≤ d then (x : EReal) else ⊥) ≠ ⊤ := fun c d x => by
    split
    · exact EReal.coe_ne_top x
    · exact bot_ne_top
  intro r
  obtain ⟨⟨μ, hm, ha⟩, ⟨μ', hm', ha'⟩⟩ := h r
  obtain ⟨ν, hn⟩ := newM_real sT _ st.1 r μ o1 hm h1 (fun k => by rw [hT]; exact ne _ _ _)
  obtain ⟨ν', hn'⟩ := newM_real sB _ st.2.1 r μ' o2 hm' h2 (fun k => by rw [hB]; exact ne _ _ _)
  unfold tileStep
  simp only [scast]
  constructor
  · refine ⟨ν, hn, fun l => ?_⟩
    refine (newA_top _ _ _ _ vb st.2.2 r l (v n) ((2 : ℝ) ^ (μ - ν)) _ (fun k => wt (512 * n + k.val) (R r) (t1 r n k) ν)
      (fun k => ?_) (fun l => scale_real st.1 _ r μ ν hm hn l) hv (ha l)).trans ?_
    · rw [wts_real sT _ _ r k _ _ _ ν o1 hn h1 (hT r k), sub_add_cancel]
    · rw [shift_sum, Finset.sum_range_succ]
  · refine ⟨ν', hn', fun l => ?_⟩
    refine (newA_bot _ _ _ _ vb st.2.2 r l (v n) ((2 : ℝ) ^ (μ' - ν')) _ (fun k => wt (512 * n + k.val) (R r) (t2 r n k) ν')
      (fun k => ?_) (fun l => scale_real st.2.1 _ r μ' ν' hm' hn' l) hv (ha' l)).trans ?_
    · rw [wts_real sB _ _ r k _ _ _ ν' o2 hn' h2 (hB r k), sub_add_cancel]
    · rw [shift_sum, Finset.sum_range_succ]

theorem ofBits_init : ∃ μ : ℝ, Ideal.ofBits .f32 0xF149F2CA#32 = (μ : EReal) := by
  simp [Ideal.ofBits, Ideal.ieee, -EReal.coe_mul]
  exact ⟨_, rfl⟩

theorem ok_init (R : Fin 512 → ℕ) (t1 t2 : Fin 512 → ℕ → Fin 512 → ℝ) (v : ℕ → Fin 512 → Fin 128 → ℝ) : OK R t1 t2 v 0 init := by
  obtain ⟨μ, h⟩ := ofBits_init
  have z : Ideal.ofBits .f32 0x00000000#32 = ((0 : ℝ) : EReal) := Ideal.ofBits_zero_f32
  exact fun r => ⟨⟨μ, fun _ => h, fun _ => z⟩, ⟨μ, fun _ => h, fun _ => z⟩⟩

end Cert.KernelIdeal.Attn
end
-- ==== Proof.BlockVal.lean ====
/- A grid point's result block, entry by entry, from real query, key and value blocks. -/
module

public import proofs.«01_k».proof.Proof.Soft

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn Idealize.ShloMosaic.WordCmp

/-! ## Sums over lanes, half of them masked -/

/-- Two halves of 64 lanes side by side. -/
def halves (a b : Fin 64 → ℝ) (x : Fin 128) : ℝ := if h : x.val < 64 then a ⟨x.val, h⟩ else b ⟨x.val - 64, by omega⟩

theorem halves_lo (a b : Fin 64 → ℝ) (d : Fin 64) : halves a b (Fin.castAdd 64 d) = a d := by
  unfold halves; rw [dif_pos (by rw [Fin.val_castAdd]; exact d.isLt)]; rfl

theorem halves_hi (a b : Fin 64 → ℝ) (d : Fin 64) : halves a b (Fin.natAdd 64 d) = b d := by
  unfold halves
  rw [dif_neg (by rw [Fin.val_natAdd]; omega)]
  exact congrArg b (Fin.ext (by show 64 + d.val - 64 = d.val; omega))

theorem sum_halves (a a' b b' : Fin 64 → ℝ) :
    ∑ x, halves a a' x * halves b b' x = ∑ d, a d * b d + ∑ d, a' d * b' d := by
  rw [show (∑ x : Fin 128, halves a a' x * halves b b' x) = ∑ x : Fin (64 + 64), halves a a' x * halves b b' x from rfl, Fin.sum_univ_add]
  simp only [halves_lo, halves_hi]

/-- The lanes that carry the two slopes' shares of a column. -/
def keyLane (s0 s1 : ℝ) (k : ℕ) (x : Fin 128) : ℝ := if x.val = 0 then s0 * k else if x.val = 3 then s1 * k else 0

theorem sum_key (s0 s1 : ℝ) (k : ℕ) (P : Fin 128 → Prop) [DecidablePred P] (u : Fin 128) (hu : P u) (w : ℝ)
    (h0 : keyLane s0 s1 k u = w) (h : ∀ x, x ≠ u → P x → keyLane s0 s1 k x = 0) :
    ∑ x, (if P x then (1 : ℝ) else 0) * keyLane s0 s1 k x = w := by
  rw [Finset.sum_eq_single u]
  · rw [if_pos hu, one_mul, h0]
  · intro x _ hx
    split
    · rw [h x hx (by assumption), mul_zero]
    · rw [zero_mul]
  · intro hh; exact absurd (Finset.mem_univ u) hh

/-! ## The query block with its masked halves -/

theorem word_slt (l n : ℕ) (hl : l < 1024) (hn : n < 1024) {α : Type} (x y : α) :
    Scalar.select (IntOp.cmpi CmpIPredicate.slt (BitVec.ofNat 32 l) (BitVec.ofNat 32 n)) x y = if l < n then x else y := by
  unfold Scalar.select
  rw [cmpi_slt_eq, toInt_ofNat_of_lt (by omega), toInt_ofNat_of_lt (by omega)]
  by_cases h : l < n
  · rw [if_pos h, if_pos (by rw [decide_eq_true (by omega : (l : ℤ) < (n : ℤ))]; rfl)]
  · rw [if_neg h, if_neg (by rw [decide_eq_false (by omega : ¬ (l : ℤ) < (n : ℤ))]; decide)]

theorem word_sge (l n : ℕ) (hl : l < 1024) (hn : n < 1024) {α : Type} (x y : α) :
    Scalar.select (IntOp.cmpi CmpIPredicate.sge (BitVec.ofNat 32 l) (BitVec.ofNat 32 n)) x y = if l < n then y else x := by
  unfold Scalar.select
  rw [cmpi_sge_eq, toInt_ofNat_of_lt (by omega), toInt_ofNat_of_lt (by omega)]
  by_cases h : l < n
  · rw [if_pos h, if_neg (by rw [decide_eq_false (by omega : ¬ (n : ℤ) ≤ (l : ℤ))]; decide)]
  · rw [if_neg h, if_pos (by rw [decide_eq_true (by omega : (n : ℤ) ≤ (l : ℤ))]; rfl)]

variable (x1 : Vec Ideal S1x512x128 .bf16) (x8 : Vec Ideal S1024x128 .bf16) (Q1 Q2 : Fin 512 → Fin 64 → ℝ)

theorem q_top (h1 : ∀ r l, x1 (ix3 0 r l) = ((halves (Q1 r) (Q2 r) l : ℝ) : EReal)) (r : Fin 512) (x : Fin 128) :
    k0_pay360 x1 x8 (ix2 ⟨r.val, by omega⟩ ⟨x.val, by omega⟩) = ((halves (Q1 r) (fun _ => 0) x : ℝ) : EReal) := by
  pointwise [k0_pay360]
  simp only [x.isLt, r.isLt, dite_true, Fin.eta, h1]
  rw [show (64#32 : BitVec 32) = BitVec.ofNat 32 64 from rfl, word_slt _ _ (by omega) (by omega)]
  unfold halves
  split
  · rfl
  · exact EReal.coe_zero.symm

theorem q_bot (h1 : ∀ r l, x1 (ix3 0 r l) = ((halves (Q1 r) (Q2 r) l : ℝ) : EReal)) (r : Fin 512) (x : Fin 128) :
    k0_pay360 x1 x8 (ix2 ⟨512 + r.val, by omega⟩ ⟨x.val, by omega⟩) = ((halves (fun _ => 0) (Q2 r) x : ℝ) : EReal) := by
  have h0 : ¬ 512 + r.val < 512 := by omega
  have hr : ∀ h, (⟨512 + r.val - 512, h⟩ : Fin 512) = r := fun h => Fin.ext (by show 512 + r.val - 512 = r.val; omega)
  pointwise [k0_pay360]
  simp only [x.isLt, h0, dite_true, dite_false, Fin.eta, hr, h1]
  rw [show (64#32 : BitVec 32) = BitVec.ofNat 32 64 from rfl, word_sge _ _ (by omega) (by omega)]
  unfold halves
  split
  · exact EReal.coe_zero.symm
  · rfl

theorem q_ind (R : Fin 1024) (x : Fin 128) : k0_pay360 x1 x8 (ix2 R ⟨128 + x.val, by omega⟩) = x8 (ix2 R x) := by
  have h0 : ¬ 128 + x.val < 128 := by omega
  have hx : ∀ h, (⟨128 + x.val - 128, h⟩ : Fin 128) = x := fun h => Fin.ext (by show 128 + x.val - 128 = x.val; omega)
  pointwise [k0_pay360]

/-! ## The scores of a tile -/

/-- A lane that one of the two maps' rows takes up. -/
def indLane (R : ℕ) (x : ℕ) : Prop := (R < 512 ∧ x < 3) ∨ (512 ≤ R ∧ 3 ≤ x ∧ x < 6)

instance (R x : ℕ) : Decidable (indLane R x) := by unfold indLane; infer_instance

variable (x7 kb : Vec Ideal S1x512x128 .bf16) (s0 s1 : ℝ) (K1 K2 : Fin 512 → Fin 64 → ℝ)

theorem scoresT_real (h1 : ∀ r l, x1 (ix3 0 r l) = ((halves (Q1 r) (Q2 r) l : ℝ) : EReal))
    (h8 : ∀ R l, x8 (ix2 R l) = (((if indLane R.val l.val then 1 else 0) : ℝ) : EReal))
    (h7 : ∀ k l, x7 (ix3 0 k l) = ((keyLane s0 s1 k.val l : ℝ) : EReal))
    (hk : ∀ k l, kb (ix3 0 k l) = ((halves (K1 k) (K2 k) l : ℝ) : EReal)) (r k : Fin 512) :
    scoresT (scores (k0_pay360 x1 x8) x7 kb) (ix2 r k) = ((∑ d, Q1 r d * K1 k d + s0 * k.val : ℝ) : EReal) := by
  pointwise [scoresT, scores]
  simp only [q_top x1 x8 Q1 Q2 h1, q_ind, h8, h7, hk, ← EReal.coe_mul, ← coe_sum', ← EReal.coe_add]
  rw [sum_halves, sum_key s0 s1 k.val (fun x : Fin 128 => indLane r.val x.val) ⟨0, by omega⟩ (Or.inl ⟨r.isLt, by decide⟩) (s0 * k.val) rfl]
  · simp only [zero_mul, Finset.sum_const_zero, add_zero]
  · intro x hx hP
    have hx0 : x.val ≠ 0 := fun h => hx (Fin.ext h)
    have hx3 : x.val ≠ 3 := by rcases hP with hP | hP <;> omega
    unfold keyLane
    rw [if_neg hx0, if_neg hx3]

theorem scoresB_real (h1 : ∀ r l, x1 (ix3 0 r l) = ((halves (Q1 r) (Q2 r) l : ℝ) : EReal))
    (h8 : ∀ R l, x8 (ix2 R l) = (((if indLane R.val l.val then 1 else 0) : ℝ) : EReal))
    (h7 : ∀ k l, x7 (ix3 0 k l) = ((keyLane s0 s1 k.val l : ℝ) : EReal))
    (hk : ∀ k l, kb (ix3 0 k l) = ((halves (K1 k) (K2 k) l : ℝ) : EReal)) (r k : Fin 512) :
    scoresB (scores (k0_pay360 x1 x8) x7 kb) (ix2 r k) = ((∑ d, Q2 r d * K2 k d + s1 * k.val : ℝ) : EReal) := by
  pointwise [scoresB, scores]
  simp only [q_bot x1 x8 Q1 Q2 h1, q_ind, h8, h7, hk, ← EReal.coe_mul, ← coe_sum', ← EReal.coe_add]
  rw [sum_halves, sum_key s0 s1 k.val (fun x : Fin 128 => indLane (512 + r.val) x.val) ⟨3, by omega⟩ (Or.inr ⟨by omega, by decide, by decide⟩) (s1 * k.val) rfl]
  · simp only [zero_mul, Finset.sum_const_zero, zero_add]
  · intro x hx hP
    have hx3 : x.val ≠ 3 := fun h => hx (Fin.ext h)
    have hx0 : x.val ≠ 0 := by rcases hP with hP | hP <;> omega
    unfold keyLane
    rw [if_neg hx0, if_neg hx3]

/-! ## The tiles in order -/

theorem toff_real (j i : ℕ) (hj : j < 32) (hi : i < 32) : toffW (F := Ideal) j i = ((((j : ℝ) - i) * 512 : ℝ) : EReal) := by
  unfold toffW
  rw [Ideal.scalar_sitofp_def, BitVec.toInt_ofInt, Int.bmod_eq_of_le (by norm_num; omega) (by norm_num; omega)]
  push_cast; rfl

theorem mulf_real (a b : Ideal .f32) (x y : ℝ) (ha : a = (x : EReal)) (hb : b = (y : EReal)) : Scalar.mulf a b = ((x * y : ℝ) : EReal) := by
  rw [ha, hb]; exact (EReal.coe_mul x y).symm

/-- The stored score of a row against a column. -/
def tau (Q : Fin 64 → ℝ) (K : ℕ → Fin 64 → ℝ) (s : ℝ) (i c : ℕ) : ℝ := ∑ d, Q d * K c d + s * ((c : ℝ) - 512 * i)

variable (x0 : Vec Ideal S8 .f32) (x2 x3 : Vec Ideal S1x16384x128 .bf16) (x4 : Vec Ideal S1x512x512 .f32)
variable (k1 k2 : ℕ → Fin 64 → ℝ) (v : ℕ → Fin 128 → ℝ) (p i : ℕ)

/-- What the blocks of a grid point hold. -/
structure Blocks : Prop where
  slot0 : slot x0 (2 * p) = (s0 : EReal)
  slot1 : slot x0 (2 * p + 1) = (s1 : EReal)
  q : ∀ r l, x1 (ix3 0 r l) = ((halves (Q1 r) (Q2 r) l : ℝ) : EReal)
  k : ∀ (c : ℕ) l, x2 (ix3 0 (col c) l) = ((halves (k1 c) (k2 c) l : ℝ) : EReal)
  v : ∀ (c : ℕ) l, x3 (ix3 0 (col c) l) = ((v c l : ℝ) : EReal)
  tab : ∀ r k, x4 (ix3 0 r k) = if k.val ≤ r.val then (0 : EReal) else ⊥
  key : ∀ k l, x7 (ix3 0 k l) = ((keyLane s0 s1 k.val l : ℝ) : EReal)
  ind : ∀ R l, x8 (ix2 R l) = (((if indLane R.val l.val then 1 else 0) : ℝ) : EReal)

variable {x0 x1 x2 x3 x4 x7 x8 Q1 Q2 s0 s1 k1 k2 v p i}

/-- The rows' state after `n` tiles. -/
abbrev OKB (Q1 Q2 : Fin 512 → Fin 64 → ℝ) (k1 k2 : ℕ → Fin 64 → ℝ) (s0 s1 : ℝ) (v : ℕ → Fin 128 → ℝ) (i n : ℕ) (st : St Ideal) : Prop :=
  OK (fun r => 512 * i + r.val) (fun r j k => tau (Q1 r) k1 s0 i (512 * j + k.val)) (fun r j k => tau (Q2 r) k2 s1 i (512 * j + k.val))
    (fun j k => v (512 * j + k.val)) n st

theorem tau_tile (Q : Fin 64 → ℝ) (K : ℕ → Fin 64 → ℝ) (s : ℝ) (i j : ℕ) (k : Fin 512) :
    tau Q K s i (512 * j + k.val) - s * (((j : ℝ) - i) * 512) = ∑ d, Q d * K (512 * j + k.val) d + s * k.val := by
  unfold tau; push_cast; ring

theorem ok_full (H : Blocks x1 x8 Q1 Q2 x7 s0 s1 x0 x2 x3 x4 k1 k2 v p) (hi : i < 32) (j : ℕ) (hj : j < i) (st : St Ideal)
    (h : OKB Q1 Q2 k1 k2 s0 s1 v i j st) : OKB Q1 Q2 k1 k2 s0 s1 v i (j + 1) (T x0 x2 x3 x7 (k0_pay360 x1 x8) p i j st) := by
  unfold T fullStep
  refine ok_step _ _ _ _ j st _ _ _ _ _ _ _ _ (mulf_real _ _ _ _ H.slot0 (toff_real j i (by omega) hi)) (mulf_real _ _ _ _ H.slot1 (toff_real j i (by omega) hi))
    (fun k l => H.v (512 * j + k.val) l) (fun r k => ?_) (fun r k => ?_) h
  · rw [if_pos (by omega), tau_tile]
    exact scoresT_real x1 x8 Q1 Q2 x7 (tileOf x2 j) s0 s1 (fun k => k1 (512 * j + k.val)) (fun k => k2 (512 * j + k.val)) H.q H.ind H.key
      (fun k l => H.k (512 * j + k.val) l) r k
  · rw [if_pos (by omega), tau_tile]
    exact scoresB_real x1 x8 Q1 Q2 x7 (tileOf x2 j) s0 s1 (fun k => k1 (512 * j + k.val)) (fun k => k2 (512 * j + k.val)) H.q H.ind H.key
      (fun k l => H.k (512 * j + k.val) l) r k

theorem masked (s : FVec Ideal S512x512 .f32) (H : Blocks x1 x8 Q1 Q2 x7 s0 s1 x0 x2 x3 x4 k1 k2 v p) (r k : Fin 512) (x : ℝ) (hs : s (ix2 r k) = (x : EReal)) :
    addf s (shapeCast S512x512 x4 shapeCasts_S1x512x512_S512x512) (ix2 r k) = if 512 * i + k.val ≤ 512 * i + r.val then (x : EReal) else ⊥ := by
  pointwise
  rw [hs, H.tab]
  by_cases h : k.val ≤ r.val
  · rw [if_pos h, if_pos (by omega), add_zero]
  · rw [if_neg h, if_neg (by omega)]; exact EReal.add_bot _

theorem ok_diag (H : Blocks x1 x8 Q1 Q2 x7 s0 s1 x0 x2 x3 x4 k1 k2 v p) (hi : i < 32) (st : St Ideal)
    (h : OKB Q1 Q2 k1 k2 s0 s1 v i i st) : OKB Q1 Q2 k1 k2 s0 s1 v i (i + 1) (TD x0 x2 x3 x4 x7 (k0_pay360 x1 x8) p i st) := by
  unfold TD diagStep
  refine ok_step _ _ _ _ i st _ _ _ _ _ _ _ _ (mulf_real _ _ _ _ H.slot0 (toff_real i i hi hi)) (mulf_real _ _ _ _ H.slot1 (toff_real i i hi hi))
    (fun k l => H.v (512 * i + k.val) l) (fun r k => ?_) (fun r k => ?_) h
  · rw [tau_tile]
    exact masked _ H r k _ (scoresT_real x1 x8 Q1 Q2 x7 (tileOf x2 i) s0 s1 (fun k => k1 (512 * i + k.val)) (fun k => k2 (512 * i + k.val)) H.q H.ind H.key
      (fun k l => H.k (512 * i + k.val) l) r k)
  · rw [tau_tile]
    exact masked _ H r k _ (scoresB_real x1 x8 Q1 Q2 x7 (tileOf x2 i) s0 s1 (fun k => k1 (512 * i + k.val)) (fun k => k2 (512 * i + k.val)) H.q H.ind H.key
      (fun k l => H.k (512 * i + k.val) l) r k)

theorem ok_steps (H : Blocks x1 x8 Q1 Q2 x7 s0 s1 x0 x2 x3 x4 k1 k2 v p) (hi : i < 32) (n : ℕ) (hn : n ≤ i) :
    OKB Q1 Q2 k1 k2 s0 s1 v i n (steps (T x0 x2 x3 x7 (k0_pay360 x1 x8) p i) n init) := by
  induction n with
  | zero => exact ok_init _ _ _ _
  | succ n ih => exact ok_full H hi n (by omega) _ (ih (by omega))

theorem ok_end (H : Blocks x1 x8 Q1 Q2 x7 s0 s1 x0 x2 x3 x4 k1 k2 v p) (hi : i < 32) :
    OKB Q1 Q2 k1 k2 s0 s1 v i (i + 1) (endState x0 x1 x2 x3 x4 x7 x8 p i) :=
  ok_diag H hi _ (ok_steps H hi i le_rfl)

/-! ## The quotient of the sums -/

theorem sum_tiles (f : ℕ → ℝ) (n : ℕ) : ∑ j ∈ Finset.range n, ∑ k : Fin 512, f (512 * j + k.val) = ∑ c ∈ Finset.range (512 * n), f c := by
  induction n with
  | zero => simp
  | succ n ih => rw [Finset.sum_range_succ, ih, Nat.mul_succ, Finset.sum_range_add, Finset.sum_range (fun k => f (512 * n + k))]

theorem sum_seen (R i : ℕ) (hi : i < 32) (hR : R < 512 * (i + 1)) (f : ℕ → ℝ) (hf : ∀ c, R < c → f c = 0) :
    ∑ j ∈ Finset.range (i + 1), ∑ k : Fin 512, f (512 * j + k.val) = ∑ c ∈ Finset.range 16384, f c := by
  rw [sum_tiles]
  refine Finset.sum_subset (Finset.range_subset_range.mpr (by omega)) fun c _ hc => hf c ?_
  rw [Finset.mem_range] at hc; omega

theorem wt_seen (c R : ℕ) (t μ e γ : ℝ) (h : t * Real.log 2 = e + γ) : wt c R t μ = seen R c e * Real.exp (γ - μ * Real.log 2) := by
  unfold wt seen
  split
  · rw [← Real.exp_add, Real.rpow_def_of_pos two_pos]
    congr 1
    rw [mul_comm, sub_mul, h]; ring
  · rw [zero_mul]

theorem quot (R i : ℕ) (hi : i < 32) (hR : R < 512 * (i + 1)) (t : ℕ → Fin 512 → ℝ) (v : ℕ → Fin 128 → ℝ) (m : Fin 128 → EReal) (a : Fin 256 → EReal)
    (τ e : ℕ → ℝ) (γ : ℝ) (ht : ∀ j k, t j k = τ (512 * j + k.val)) (he : ∀ c, τ c * Real.log 2 = e c + γ)
    (h : RowOK R t (fun j k => v (512 * j + k.val)) (i + 1) m a) (l : Fin 128) :
    Ideal.div (a ⟨l.val, by omega⟩) (a ⟨128 + l.val, by omega⟩) = ((soft R e (fun c => v c l) : ℝ) : EReal) := by
  obtain ⟨μ, -, ha⟩ := h
  have hw : ∀ j k, wt (512 * j + k) R (τ (512 * j + k)) μ = seen R (512 * j + k) (e (512 * j + k)) * Real.exp (γ - μ * Real.log 2) :=
    fun j k => wt_seen _ _ _ _ _ _ (he _)
  have hz : ∀ c, R < c → seen R c (e c) = 0 := fun c hc => if_neg (by omega)
  have hn : a ⟨l.val, by omega⟩ = (((∑ c ∈ Finset.range 16384, seen R c (e c) * v c l) * Real.exp (γ - μ * Real.log 2) : ℝ) : EReal) := by
    rw [ha]
    refine congrArg _ ?_
    rw [← sum_seen R i hi hR (fun c => seen R c (e c) * v c l) (fun c hc => by rw [hz c hc, zero_mul]), Finset.sum_mul]
    refine Finset.sum_congr rfl fun j _ => ?_
    rw [Finset.sum_mul]
    refine Finset.sum_congr rfl fun k _ => ?_
    rw [ht, hw]
    unfold cols
    rw [dif_pos l.isLt]
    show _ * v (512 * j + k.val) l = _
    ring
  have hd : a ⟨128 + l.val, by omega⟩ = (((∑ c ∈ Finset.range 16384, seen R c (e c)) * Real.exp (γ - μ * Real.log 2) : ℝ) : EReal) := by
    rw [ha]
    refine congrArg _ ?_
    rw [← sum_seen R i hi hR (fun c => seen R c (e c)) hz, Finset.sum_mul]
    refine Finset.sum_congr rfl fun j _ => ?_
    rw [Finset.sum_mul]
    refine Finset.sum_congr rfl fun k _ => ?_
    rw [ht, hw]
    unfold cols
    rw [dif_neg (by show ¬ 128 + l.val < 128; omega), mul_one]
  have hD := den_pos R (by omega) e
  rw [hn, hd, Ideal.div_coe (mul_pos hD (Real.exp_pos _)).ne', ← EReal.coe_mul]
  refine congrArg _ ?_
  unfold soft
  generalize (∑ c ∈ Finset.range 16384, seen R c (e c)) = D at hD
  generalize (∑ c ∈ Finset.range 16384, seen R c (e c) * v c l) = N
  have hE := (Real.exp_pos (γ - μ * Real.log 2)).ne'
  generalize Real.exp (γ - μ * Real.log 2) = E at hE
  have := hD.ne'
  field_simp

/-! ## The block -/

theorem final_real (x5 : Vec Ideal S8x128 .f32) (x6 : Vec Ideal S1x128 .f32) (a : Vec Ideal S1024x256 .f32) (r : Fin 512) (l : Fin 128)
    (o1 o2 : Fin 128 → ℝ) (lam : ℝ)
    (hl : Ideal.exp (∑ x : Fin 128, x5 (ix2 0 x) * x5 (ix2 1 x)) - Ideal.exp (∑ x : Fin 128, x5 (ix2 2 x) * x5 (ix2 3 x)) + x5 (ix2 4 0) = (lam : EReal))
    (h1 : ∀ l : Fin 128, Ideal.div (a (ix2 ⟨r.val, by omega⟩ ⟨l.val, by omega⟩)) (a (ix2 ⟨r.val, by omega⟩ ⟨128 + l.val, by omega⟩)) = (o1 l : EReal))
    (h2 : ∀ l : Fin 128, Ideal.div (a (ix2 ⟨512 + r.val, by omega⟩ ⟨l.val, by omega⟩)) (a (ix2 ⟨512 + r.val, by omega⟩ ⟨128 + l.val, by omega⟩)) = (o2 l : EReal)) :
    finalOut x5 x6 a (ix3 0 r l) = normed (fun l => o1 l - lam * o2 l) (x6 (ix2 0 l)) (x5 (ix2 4 0)) l := by
  pointwise [finalOut, k0_pay1, k0_pay368, k0_pay369, k0_pay370, k0_pay371]
  simp only [Finset.univ_unique, Finset.sum_singleton, hl, h1, h2, ← EReal.coe_mul, ← EReal.coe_sub]
  unfold normed
  simp only [← EReal.coe_mul]

theorem attn_real (H : Blocks x1 x8 Q1 Q2 x7 s0 s1 x0 x2 x3 x4 k1 k2 v p) (hi : i < 32) (x5 : Vec Ideal S8x128 .f32) (x6 : Vec Ideal S1x128 .f32)
    (lam : ℝ)
    (hl : Ideal.exp (∑ x : Fin 128, x5 (ix2 0 x) * x5 (ix2 1 x)) - Ideal.exp (∑ x : Fin 128, x5 (ix2 2 x) * x5 (ix2 3 x)) + x5 (ix2 4 0) = (lam : EReal))
    (r : Fin 512) (l : Fin 128) (e1 e2 : ℕ → ℝ) (γ1 γ2 : ℝ)
    (he1 : ∀ c, tau (Q1 r) k1 s0 i c * Real.log 2 = e1 c + γ1) (he2 : ∀ c, tau (Q2 r) k2 s1 i c * Real.log 2 = e2 c + γ2) :
    attnOut x0 x1 x2 x3 x4 x5 x6 x7 x8 p i (ix3 0 r l)
      = normed (fun l => soft (512 * i + r.val) e1 (fun c => v c l) - lam * soft (512 * i + r.val) e2 (fun c => v c l)) (x6 (ix2 0 l)) (x5 (ix2 4 0)) l := by
  obtain ⟨hA, hB⟩ := ok_end H hi r
  exact final_real x5 x6 _ r l _ _ lam hl
    (fun l => quot (512 * i + r.val) i hi (by omega) _ v _ _ (fun c => tau (Q1 r) k1 s0 i c) e1 γ1 (fun _ _ => rfl) he1 hA l)
    (fun l => quot (512 * i + r.val) i hi (by omega) _ v _ _ (fun c => tau (Q2 r) k2 s1 i c) e2 γ2 (fun _ _ => rfl) he2 hB l)

end Cert.KernelIdeal.Attn
end
-- ==== Proof.Host.lean ====
/- The arrays the kernel's windows read, entry by entry, from the arguments. -/
module

public import proofs.«01_k».proof.Proof.BlockVal
public import proofs.«01_k».proof.Proof.Gen.KernelIdeal.Value
public import Idealize.ShloMosaic.Lib.Claim
public import Idealize.ShloMosaic.Lib.Routing.OpsOne

@[expose] public section

set_option maxRecDepth 16384

noncomputable section

open Idealize.ShloMosaic Idealize.ShloMosaic.TcCoe Idealize.SL.Sem StableHlo

namespace Cert.KernelIdeal.Attn

open Cert.KernelIdeal Cert.KernelIdeal.Gen Cert.Attn Idealize.ShloMosaic.WordCmp

/-! ## The two updates of the weights' table -/

section
variable [Facts₀]

theorem scatter_rows {α : Type} (x : S8x128.Idx → α) (idx : IVec S2 32) (hidx : ∀ i, idx i = 0#32) (u : S4x64.Idx → α) (r : Fin 8) (k : Fin 128) :
    Host.scatter scatter_S8x128_S2_S4x64_01_n_01_0 (fun _ b => b) x idx u (ix2 r k)
      = if h : r.val < 4 ∧ k.val < 64 then u (ix2 ⟨r.val, h.1⟩ ⟨k.val, h.2⟩) else x (ix2 r k) := by
  have lands : ∀ (a : Fin 4) (b : Fin 64), scatter_S8x128_S2_S4x64_01_n_01_0.resultIdx? (ix2 a b) idx = some (ix2 r k)
      ↔ a.val = r.val ∧ b.val = k.val := by
    intro a b
    refine (Routing.resultIdx?_ix2 (R := 8) (C := 128) _ _ _ r k).trans ?_
    rw [Routing.start_pair (R := 8) (C := 128) _ rfl rfl, Routing.start_pair (R := 8) (C := 128) _ rfl rfl, hidx, hidx]
    have w0 : scatter_S8x128_S2_S4x64_01_n_01_0.window (ix2 a b) 0 = a.val := rfl
    have w1 : scatter_S8x128_S2_S4x64_01_n_01_0.window (ix2 a b) 1 = b.val := rfl
    rw [w0, w1, show (0#32 : BitVec 32).toInt = 0 from rfl]
    omega
  by_cases h : r.val < 4 ∧ k.val < 64
  · rw [dif_pos h]
    refine Routing.scatter_set_hit _ x idx u _ _ (fun j hj => ?_) (ix2 ⟨r.val, h.1⟩ ⟨k.val, h.2⟩) ((lands _ _).2 ⟨rfl, rfl⟩)
    rw [eq_ix2 j] at hj ⊢
    have := (lands _ _).1 hj
    exact congrArg u (congrArg₂ ix2 (Fin.ext this.1) (Fin.ext this.2))
  · rw [dif_neg h]
    refine Routing.scatter_set_miss _ x idx u _ fun j hj => h ?_
    rw [eq_ix2 j] at hj
    have := (lands _ _).1 hj
    exact ⟨this.1 ▸ (j 0).isLt, this.2 ▸ (j 1).isLt⟩

theorem scatter_row {α : Type} (x : S8x128.Idx → α) (idx : IVec S1 32) (hidx : ∀ i, idx i = 4#32) (u : S128.Idx → α) (r : Fin 8) (k : Fin 128) :
    Host.scatter scatter_S8x128_S1_S128_0_0_0_0 (fun _ b => b) x idx u (ix2 r k)
      = if r.val = 4 then u (ix1 k) else x (ix2 r k) := by
  have lands : ∀ (b : Fin 128), scatter_S8x128_S1_S128_0_0_0_0.resultIdx? (ix1 b) idx = some (ix2 r k)
      ↔ r.val = 4 ∧ b.val = k.val := by
    intro b
    refine (Routing.resultIdx?_ix2 (R := 8) (C := 128) _ _ _ r k).trans ?_
    have w0 : scatter_S8x128_S1_S128_0_0_0_0.window (ix1 b) 0 = 0 := rfl
    have w1 : scatter_S8x128_S1_S128_0_0_0_0.window (ix1 b) 1 = b.val := rfl
    have s0 : scatter_S8x128_S1_S128_0_0_0_0.start (ix1 b) idx 0 = (idx (scatter_S8x128_S1_S128_0_0_0_0.siIdx (ix1 b) ⟨0, Nat.one_pos⟩)).toInt := rfl
    have s1 : scatter_S8x128_S1_S128_0_0_0_0.start (ix1 b) idx 1 = 0 := rfl
    rw [w0, w1, s0, s1, hidx, show (4#32 : BitVec 32).toInt = 4 from rfl]
    omega
  by_cases h : r.val = 4
  · rw [if_pos h]
    refine Routing.scatter_set_hit _ x idx u _ _ (fun j hj => ?_) (ix1 k) ((lands _).2 ⟨h, rfl⟩)
    rw [eq_ix1 j] at hj ⊢
    exact congrArg (fun e => u (ix1 e)) (Fin.ext ((lands _).1 hj).2)
  · rw [if_neg h]
    refine Routing.scatter_set_miss _ x idx u _ fun j hj => h ?_
    rw [eq_ix1 j] at hj
    exact ((lands _).1 hj).1

end

/-! ## Scalars -/

/-- Base two's share of the natural exponent. -/
theorem log2e : Ideal.div 1 (Ideal.log (Ideal.ofBits .f32 0x40000000#32)) = ((1 / Real.log 2 : ℝ) : EReal) := by
  rw [ofBits_two, Ideal.log_coe, if_neg (by norm_num), Ideal.div_coe (Real.log_pos one_lt_two).ne', one_mul]

theorem zero_word : (Scalar.sitofp (F := Ideal) .f32 0#32 : EReal) = 0 := by
  rw [Ideal.scalar_sitofp_def]; norm_num

/-- A head's slope, for exponents of base two. -/
def slope2 (p : ℕ) : ℝ := slopeR p * (1 / Real.log 2)

theorem slope2_coe (p : ℕ) : slopeE p * Ideal.div 1 (Ideal.log (Ideal.ofBits .f32 0x40000000#32)) = (slope2 p : EReal) := by
  rw [slopeE_coe, log2e, ← EReal.coe_mul]; rfl

variable (m : (ℓ : Loc nD τ sig) → Buf (Elt Ideal) ℓ)

theorem host_slopes (c : Dev nD) (i : Fin 8) : V m c main_v15 (ix1 i) = ((slope2 (i.val / 2) : ℝ) : EReal) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
  after_results_simp
  pointwise
  exact slope2_coe _

theorem host_causal (c : Dev nD) (r k : Fin 512) : V m c main_v27 (ix3 0 r k) = if k.val ≤ r.val then (0 : EReal) else (⊥ : EReal) := by
  have key : V m c main_v27 (ix3 0 r k) = Scalar.select (IntOp.cmpi CmpIPredicate.sge (IntOp.subi (BitVec.ofNat 32 r.val) (BitVec.ofNat 32 k.val)) 0#32) (0 : EReal)
      (Ideal.ofBits FTy.f32 0xFF800000#32) := by
    unfold_abbrev_sides
    simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
    after_results_simp
    simp only [id_eq]
    pointwise
    try rfl
  rw [key, ofBits_bot]
  have e : (IntOp.subi (BitVec.ofNat 32 r.val) (BitVec.ofNat 32 k.val)).toInt = (r.val : ℤ) - k.val := by
    unfold IntOp.subi
    rw [BitVec.toInt_sub, toInt_ofNat_of_lt (by omega), toInt_ofNat_of_lt (by omega), Int.bmod_eq_of_le (by norm_num; omega) (by norm_num; omega)]
  unfold Scalar.select
  rw [cmpi_sge_eq, e]
  by_cases h : k.val ≤ r.val
  · rw [if_pos h, if_pos (by rw [decide_eq_true (by show (0 : ℤ) ≤ _; omega)]; rfl)]
  · rw [if_neg h, if_neg (by rw [decide_eq_false (by show ¬ (0 : ℤ) ≤ _; omega)]; decide)]

theorem word_slt1 (l n : ℕ) (hl : l < 1024) (hn : n < 1024) :
    IntOp.cmpi CmpIPredicate.slt (BitVec.ofNat 32 l) (BitVec.ofNat 32 n) = if l < n then 1#1 else 0#1 := by
  rw [cmpi_slt_eq, toInt_ofNat_of_lt (by omega), toInt_ofNat_of_lt (by omega)]
  by_cases h : l < n
  · rw [if_pos h, decide_eq_true (by omega : (l : ℤ) < (n : ℤ))]; rfl
  · rw [if_neg h, decide_eq_false (by omega : ¬ (l : ℤ) < (n : ℤ))]; rfl

theorem word_sge1 (l n : ℕ) (hl : l < 1024) (hn : n < 1024) :
    IntOp.cmpi CmpIPredicate.sge (BitVec.ofNat 32 l) (BitVec.ofNat 32 n) = if l < n then 0#1 else 1#1 := by
  rw [cmpi_sge_eq, toInt_ofNat_of_lt (by omega), toInt_ofNat_of_lt (by omega)]
  by_cases h : l < n
  · rw [if_pos h, decide_eq_false (by omega : ¬ (n : ℤ) ≤ (l : ℤ))]; rfl
  · rw [if_neg h, decide_eq_true (by omega : (n : ℤ) ≤ (l : ℤ))]; rfl

theorem host_ind (c : Dev nD) (r : Fin 1024) (k : Fin 128) :
    V m c main_v66 (ix2 r k) = (((if indLane r.val k.val then 1 else 0) : ℝ) : EReal) := by
  have key : V m c main_v66 (ix2 r k) = Scalar.select (IntOp.ori (IntOp.andi (IntOp.cmpi CmpIPredicate.slt (BitVec.ofNat 32 r.val) (BitVec.ofNat 32 512))
          (IntOp.cmpi CmpIPredicate.slt (BitVec.ofNat 32 k.val) (BitVec.ofNat 32 3)))
        (IntOp.andi (IntOp.andi (IntOp.cmpi CmpIPredicate.sge (BitVec.ofNat 32 r.val) (BitVec.ofNat 32 512)) (IntOp.cmpi CmpIPredicate.sge (BitVec.ofNat 32 k.val) (BitVec.ofNat 32 3)))
          (IntOp.cmpi CmpIPredicate.slt (BitVec.ofNat 32 k.val) (BitVec.ofNat 32 6)))) (1 : EReal) (0 : EReal) := by
    unfold_abbrev_sides
    simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
    after_results_simp
    pointwise
    try rfl
  rw [key, word_slt1 _ _ (by omega) (by omega), word_slt1 _ _ (by omega) (by omega), word_slt1 _ _ (by omega) (by omega),
    word_sge1 _ _ (by omega) (by omega), word_sge1 _ _ (by omega) (by omega)]
  unfold indLane Scalar.select IntOp.ori IntOp.andi
  by_cases a : r.val < 512 <;> by_cases b : k.val < 3 <;> by_cases d : k.val < 6 <;>
    simp [a, b, d, Nat.not_le.2, Nat.not_lt.1] <;> omega

theorem host_gain (c : Dev nD) (k : Fin 128) : V m c main_v93 (ix2 0 k) = m (c, Proc.tc.devRef main_arg10) (ix1 k) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
  after_results_simp
  pointwise

/-! ## The packed projection -/

/-- An entry of the packed projection, from the arguments. -/
theorem host_proj (c : Dev nD) (b : Fin 40) (r : Fin 16384) (k : Fin 128) : V m c main_v78 (ix3 b r k) =
    (if h : b.val < 12 then
      if h1 : b.val < 4 then
        (if h2 : k.val < 64 then m (c, Proc.tc.devRef main_arg0) (ix3 r ⟨b.val, h1⟩ ⟨k.val, h2⟩)
          else m (c, Proc.tc.devRef main_arg1) (ix3 r ⟨b.val, h1⟩ ⟨k.val - 64, by omega⟩) : EReal)
          * Ideal.ofBits FTy.f32 0x3E000000#32 * Ideal.div 1 (Ideal.log (Ideal.ofBits FTy.f32 0x40000000#32))
      else if h2 : b.val - 4 < 4 then
        if h3 : k.val < 64 then m (c, Proc.tc.devRef main_arg2) (ix3 r ⟨b.val - 4, h2⟩ ⟨k.val, h3⟩)
        else m (c, Proc.tc.devRef main_arg3) (ix3 r ⟨b.val - 4, h2⟩ ⟨k.val - 64, by omega⟩)
      else m (c, Proc.tc.devRef main_arg4) (ix3 r ⟨b.val - 4 - 4, by omega⟩ k)
    else 0 : EReal) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
  after_results_simp
  pointwise
  after_results_simp
  pointwise
  refine dite_congr rfl (fun _ => rfl) (fun _ => zero_word)

theorem host_q (c : Dev nD) (h0 : ∀ i, Fin' (m (c, Proc.tc.devRef main_arg0) i)) (h1 : ∀ i, Fin' (m (c, Proc.tc.devRef main_arg1) i))
    (p : Fin 4) (r : Fin 16384) (k : Fin 128) : V m c main_v78 (ix3 ⟨p.val, by omega⟩ r k) =
      ((halves (fun d => (m (c, Proc.tc.devRef main_arg0) (ix3 r p d)).toReal * (1 / 8) * (1 / Real.log 2))
        (fun d => (m (c, Proc.tc.devRef main_arg1) (ix3 r p d)).toReal * (1 / 8) * (1 / Real.log 2)) k : ℝ) : EReal) := by
  rw [host_proj, dif_pos (show p.val < 12 by omega), dif_pos p.isLt, log2e, ofBits_eighth]
  unfold halves
  split
  · rw [EReal.coe_mul, EReal.coe_mul, (h0 _).eq]
  · rw [EReal.coe_mul, EReal.coe_mul, (h1 _).eq]

theorem host_k (c : Dev nD) (h2 : ∀ i, Fin' (m (c, Proc.tc.devRef main_arg2) i)) (h3 : ∀ i, Fin' (m (c, Proc.tc.devRef main_arg3) i))
    (p : Fin 4) (r : Fin 16384) (k : Fin 128) : V m c main_v78 (ix3 ⟨4 + p.val, by omega⟩ r k) =
      ((halves (fun d => (m (c, Proc.tc.devRef main_arg2) (ix3 r p d)).toReal) (fun d => (m (c, Proc.tc.devRef main_arg3) (ix3 r p d)).toReal) k : ℝ) : EReal) := by
  have hp : ∀ h, (⟨4 + p.val - 4, h⟩ : Fin 4) = p := fun h => Fin.ext (by show 4 + p.val - 4 = p.val; omega)
  rw [host_proj, dif_pos (show 4 + p.val < 12 by omega), dif_neg (show ¬ 4 + p.val < 4 by omega), dif_pos (show 4 + p.val - 4 < 4 by omega), hp]
  unfold halves
  split
  · rw [(h2 _).eq]
  · rw [(h3 _).eq]

theorem host_v (c : Dev nD) (h4 : ∀ i, Fin' (m (c, Proc.tc.devRef main_arg4) i)) (p : Fin 4) (r : Fin 16384) (k : Fin 128) :
    V m c main_v78 (ix3 ⟨8 + p.val, by omega⟩ r k) = (((m (c, Proc.tc.devRef main_arg4) (ix3 r p k)).toReal : ℝ) : EReal) := by
  have hp : ∀ h, (⟨8 + p.val - 4 - 4, h⟩ : Fin 4) = p := fun h => Fin.ext (by show 8 + p.val - 4 - 4 = p.val; omega)
  rw [host_proj, dif_pos (show 8 + p.val < 12 by omega), dif_neg (show ¬ 8 + p.val < 4 by omega), dif_neg (show ¬ 8 + p.val - 4 < 4 by omega), hp,
    (h4 _).eq]

/-! ## The lanes that carry the slopes -/

theorem share_coe (p b k : ℕ) (hk : k < 512) (h : b = p) : slopeE b * Ideal.div 1 (Ideal.log (Ideal.ofBits .f32 0x40000000#32))
    * Scalar.sitofp (F := Ideal) .f32 (BitVec.ofNat 32 k) = ((slope2 p * k : ℝ) : EReal) := by
  rw [h, slope2_coe, Ideal.scalar_sitofp_def, toInt_ofNat_of_lt (by omega), ← EReal.coe_mul]; norm_num

theorem host_key (c : Dev nD) (p : Fin 4) (k : Fin 512) (l : Fin 128) :
    V m c main_v48 (ix3 p k l) = ((keyLane (slope2 p.val) (slope2 p.val) k.val l : ℝ) : EReal) := by
  have key : V m c main_v48 (ix3 p k l) =
      (let E : EReal := slopeE ((p.val * 2 + l.val / 3) / 2) * Ideal.div 1 (Ideal.log (Ideal.ofBits .f32 0x40000000#32)) * Scalar.sitofp (F := Ideal) .f32 (BitVec.ofNat 32 k.val)
      if l.val < 6 then if l.val % 3 < 1 then E else if l.val % 3 - 1 < 1 then E - E else E - E - (E - E)
      else Scalar.sitofp (F := Ideal) .bf16 0#32) := by
    unfold_abbrev_sides
    simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
    after_results_simp
    pointwise
    after_results_simp
    pointwise
    try rfl
  rw [key]
  dsimp only
  by_cases hl : l.val < 6
  · rw [if_pos hl, share_coe p.val _ _ k.isLt (by omega), ← EReal.coe_sub, ← EReal.coe_sub]
    have d : slope2 p.val * (k.val : ℝ) - slope2 p.val * (k.val : ℝ) = 0 := sub_self _
    rw [d, sub_self]
    unfold keyLane
    by_cases h1 : l.val % 3 < 1
    · rw [if_pos h1]
      by_cases h0 : l.val = 0
      · rw [if_pos h0]
      · rw [if_neg h0, if_pos (by omega)]
    · rw [if_neg h1, if_neg (by omega : ¬ l.val = 0), if_neg (by omega : ¬ l.val = 3)]
      split <;> rfl
  · rw [if_neg hl, Ideal.scalar_sitofp_def]
    unfold keyLane
    rw [if_neg (by omega : ¬ l.val = 0), if_neg (by omega : ¬ l.val = 3)]
    norm_num

/-! ## The weights' table -/

theorem host_lam (c : Dev nD) (r : Fin 8) (k : Fin 128) : V m c main_v92 (ix2 r k) =
    (if r.val = 4 then m (c, Proc.tc.devRef main_arg9) (ix1 0)
    else if h : r.val < 4 ∧ k.val < 64 then
      if r.val < 1 then m (c, Proc.tc.devRef main_arg5) (ix1 ⟨k.val, h.2⟩)
      else if r.val - 1 < 1 then m (c, Proc.tc.devRef main_arg6) (ix1 ⟨k.val, h.2⟩)
      else if r.val - 1 - 1 < 1 then m (c, Proc.tc.devRef main_arg7) (ix1 ⟨k.val, h.2⟩)
      else m (c, Proc.tc.devRef main_arg8) (ix1 ⟨k.val, h.2⟩)
    else 0 : EReal) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.unary, TRef.binary, TRef.ternary, TRef.toBuf, TRef.ofBuf, cast_eq]
  after_results_simp
  refine (scatter_row _ _ (fun _ => rfl) _ r k).trans ?_
  by_cases h4 : r.val = 4
  · rw [if_pos h4, if_pos h4]
    pointwise
  rw [if_neg h4, if_neg h4]
  refine (scatter_rows _ _ (fun i => ?_) _ r k).trans ?_
  · rw [eq_ix1 i]
    pointwise
    after_results_simp
    split <;> rfl
  by_cases h : r.val < 4 ∧ k.val < 64
  · rw [dif_pos h, dif_pos h]
    pointwise
    after_results_simp
    pointwise
    split_ifs <;> rfl
  · rw [dif_neg h, dif_neg h]
    pointwise

end Cert.KernelIdeal.Attn
end
-- ==== Proof.Whole.lean ====
/- The result array after the run, entry by entry. -/
module

public import proofs.«01_k».proof.Proof.Cases
public import proofs.«01_k».proof.Proof.Host
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ)

/-! ## What a grid point leaves in its result block -/

theorem after_eq (c : Dev nD) (t : Fin cfg0.N) :
    (dats m 0 c).after 9 t = attnOut (iblk m c 0 t) (iblk m c 1 t) (iblk m c 2 t) (iblk m c 3 t) (iblk m c 4 t)
      (iblk m c 5 t) (iblk m c 6 t) (iblk m c 7 t) (iblk m c 8 t) (grid0.coords t 0).val (grid0.coords t 1).val := by
  rw [after0_9]
  by_cases h0 : (t.val % 8 = 4 ∨ t.val % 8 = 5 ∨ t.val % 8 = 6 ∨ t.val % 8 = 7) <;> by_cases h1 : (t.val % 4 = 2 ∨ t.val % 4 = 3) <;> by_cases h2 : t.val % 2 = 1
  · rw [outsAt0_H m c t h0 h1 h2, block_H]
  · rw [outsAt0_G m c t h0 h1 h2, block_G]
  · rw [outsAt0_F m c t h0 h1 h2, block_F]
  · rw [outsAt0_E m c t h0 h1 h2, block_E]
  · rw [outsAt0_D m c t h0 h1 h2, block_D]
  · rw [outsAt0_C m c t h0 h1 h2, block_C]
  · rw [outsAt0_B m c t h0 h1 h2, block_B]
  · rw [outsAt0_A m c t h0 h1 h2, block_A]

/-! ## The blocks a grid point reads -/

theorem idx0 : ∀ t : Fin cfg0.N, win0_0.index t = ![0] := (by decide +kernel : ∀ t : Fin grid0.N, win0_0.index t = ![0])
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem idx2 : ∀ t : Fin cfg0.N, win0_2.index t = ![4 + (grid0.coords t 0).val, 0, 0] :=
  (by decide +kernel : ∀ t : Fin grid0.N, win0_2.index t = ![4 + (grid0.coords t 0).val, 0, 0])
theorem idx3 : ∀ t : Fin cfg0.N, win0_3.index t = ![8 + (grid0.coords t 0).val, 0, 0] :=
  (by decide +kernel : ∀ t : Fin grid0.N, win0_3.index t = ![8 + (grid0.coords t 0).val, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![(grid0.coords t 0).val, 0, 0] :=
  (by decide +kernel : ∀ t : Fin grid0.N, win0_7.index t = ![(grid0.coords t 0).val, 0, 0])
theorem idx8 : ∀ t : Fin cfg0.N, win0_8.index t = ![0, 0] := (by decide +kernel : ∀ t : Fin grid0.N, win0_8.index t = ![0, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])

theorem head_lt (t : Fin cfg0.N) : (grid0.coords t 0).val < 4 := (grid0.coords t 0).isLt
theorem tile_lt (t : Fin cfg0.N) : (grid0.coords t 1).val < 32 := (grid0.coords t 1).isLt

/-- The head of a grid point. -/
def hd (t : Fin cfg0.N) : Fin 4 := ⟨(grid0.coords t 0).val, head_lt t⟩

/-- A row of a grid point's tile, in the whole. -/
def row (t : Fin cfg0.N) (r : Fin 512) : Fin 16384 := ⟨512 * (grid0.coords t 1).val + r.val, by have := tile_lt t; omega⟩

variable (c : Dev nD) (t : Fin cfg0.N)

theorem read0 (i : Fin 8) : iblk m c 0 t (ix1 i) = V m c main_v15 (ix1 i) := by
  blk_ext [iblk, idx0 t]
theorem read1 (r : Fin 512) (l : Fin 128) : iblk m c 1 t (ix3 0 r l) = V m c main_v78 (ix3 ⟨(hd t).val, by omega⟩ (row t r) l) := by
  unfold hd row
  blk_ext [iblk, idx1 t]
theorem read2 (r : Fin 16384) (l : Fin 128) : iblk m c 2 t (ix3 0 r l) = V m c main_v78 (ix3 ⟨4 + (hd t).val, by omega⟩ r l) := by
  unfold hd
  blk_ext [iblk, idx2 t]
theorem read3 (r : Fin 16384) (l : Fin 128) : iblk m c 3 t (ix3 0 r l) = V m c main_v78 (ix3 ⟨8 + (hd t).val, by omega⟩ r l) := by
  unfold hd
  blk_ext [iblk, idx3 t]
theorem read4 (r k : Fin 512) : iblk m c 4 t (ix3 0 r k) = V m c main_v27 (ix3 0 r k) := by
  blk_ext [iblk, idx4 t]
theorem read5 (r : Fin 8) (k : Fin 128) : iblk m c 5 t (ix2 r k) = V m c main_v92 (ix2 r k) := by
  blk_ext [iblk, idx5 t]
theorem read6 (k : Fin 128) : iblk m c 6 t (ix2 0 k) = V m c main_v93 (ix2 0 k) := by
  blk_ext [iblk, idx6 t]
theorem read7 (r : Fin 512) (k : Fin 128) : iblk m c 7 t (ix3 0 r k) = V m c main_v48 (ix3 (hd t) r k) := by
  unfold hd
  blk_ext [iblk, idx7 t]
theorem read8 (r : Fin 1024) (k : Fin 128) : iblk m c 8 t (ix2 r k) = V m c main_v66 (ix2 r k) := by
  blk_ext [iblk, idx8 t]

end Cert.KernelIdeal.Attn
end
-- ==== Proof.Result.lean ====
/- The result array after the run is the differential attention of the arguments. -/
module

public import proofs.«01_k».proof.Proof.Whole

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ) (c : Dev nD) (t : Fin cfg0.N)

theorem blocks (h0 : ∀ i, Fin' (m (c, Proc.tc.devRef main_arg0) i)) (h1 : ∀ i, Fin' (m (c, Proc.tc.devRef main_arg1) i)) (h2 : ∀ i, Fin' (m (c, Proc.tc.devRef main_arg2) i)) (h3 : ∀ i, Fin' (m (c, Proc.tc.devRef main_arg3) i)) (h4 : ∀ i, Fin' (m (c, Proc.tc.devRef main_arg4) i)) :
    Blocks (iblk m c 1 t) (iblk m c 8 t) (fun r d => (m (c, Proc.tc.devRef main_arg0) (ix3 (row t r) (hd t) d)).toReal * (1 / 8) * (1 / Real.log 2))
      (fun r d => (m (c, Proc.tc.devRef main_arg1) (ix3 (row t r) (hd t) d)).toReal * (1 / 8) * (1 / Real.log 2)) (iblk m c 7 t)
      (slope2 (hd t).val) (slope2 (hd t).val) (iblk m c 0 t) (iblk m c 2 t) (iblk m c 3 t) (iblk m c 4 t)
      (fun n d => (m (c, Proc.tc.devRef main_arg2) (ix3 (col n) (hd t) d)).toReal) (fun n d => (m (c, Proc.tc.devRef main_arg3) (ix3 (col n) (hd t) d)).toReal)
      (fun n l => vals (fun a b d => m (c, Proc.tc.devRef main_arg4) (ix3 a b d)) (hd t) l n) (grid0.coords t 0).val where
  slot0 := by
    have := head_lt t
    unfold slot
    refine (read0 m c t _).trans ((host_slopes m c _).trans ?_)
    rw [show (2 * (grid0.coords t 0).val % 8) / 2 = (hd t).val by show _ = (grid0.coords t 0).val; omega]
  slot1 := by
    have := head_lt t
    unfold slot
    refine (read0 m c t _).trans ((host_slopes m c _).trans ?_)
    rw [show ((2 * (grid0.coords t 0).val + 1) % 8) / 2 = (hd t).val by show _ = (grid0.coords t 0).val; omega]
  q r l := (read1 m c t r l).trans (host_q m c h0 h1 (hd t) (row t r) l)
  k n l := (read2 m c t (col n) l).trans (host_k m c h2 h3 (hd t) (col n) l)
  v n l := (read3 m c t (col n) l).trans (host_v m c h4 (hd t) (col n) l)
  tab r k := (read4 m c t r k).trans (host_causal m c r k)
  key k l := (read7 m c t k l).trans (host_key m c (hd t) k l)
  ind R l := (read8 m c t R l).trans (host_ind m c R l)

/-! ## The second map's weight -/

/-- A sum over 128 lanes of which the upper half are zero. -/
theorem sum_lanes (f : Fin 128 → EReal) (a : Fin 64 → ℝ) (h : ∀ x : Fin 128, f x = if hx : x.val < 64 then (a ⟨x.val, hx⟩ : EReal) else 0) :
    ∑ x, f x = ((∑ d, a d : ℝ) : EReal) := by
  have e : ∀ x, f x = ((halves a (fun _ => 0) x : ℝ) : EReal) := by
    intro x
    rw [h]
    unfold halves
    split
    · rfl
    · exact EReal.coe_zero.symm
  simp only [e]
  rw [← coe_sum']
  refine congrArg _ ?_
  rw [show (∑ x : Fin 128, halves a (fun _ => 0) x) = ∑ x : Fin (64 + 64), halves a (fun _ => 0) x from rfl, Fin.sum_univ_add]
  simp only [halves_lo, halves_hi, Finset.sum_const_zero, add_zero]

theorem lam_real (h5 : ∀ i, Fin' (m (c, Proc.tc.devRef main_arg5) i)) (h6 : ∀ i, Fin' (m (c, Proc.tc.devRef main_arg6) i)) (h7 : ∀ i, Fin' (m (c, Proc.tc.devRef main_arg7) i)) (h8 : ∀ i, Fin' (m (c, Proc.tc.devRef main_arg8) i)) (h9 : ∀ i, Fin' (m (c, Proc.tc.devRef main_arg9) i)) (x5 : Vec Ideal S8x128 .f32)
    (h : ∀ r k, x5 (ix2 r k) = V m c main_v92 (ix2 r k)) :
    Ideal.exp (∑ x : Fin 128, x5 (ix2 0 x) * x5 (ix2 1 x)) - Ideal.exp (∑ x : Fin 128, x5 (ix2 2 x) * x5 (ix2 3 x))
      + x5 (ix2 4 0) = ((lamR (fun x => m (c, Proc.tc.devRef main_arg5) (ix1 x)) (fun x => m (c, Proc.tc.devRef main_arg6) (ix1 x)) (fun x => m (c, Proc.tc.devRef main_arg7) (ix1 x)) (fun x => m (c, Proc.tc.devRef main_arg8) (ix1 x)) (m (c, Proc.tc.devRef main_arg9) (ix1 0)) : ℝ) : EReal) := by
  have e4 : x5 (ix2 4 0) = (((m (c, Proc.tc.devRef main_arg9) (ix1 0)).toReal : ℝ) : EReal) := by
    rw [h, host_lam, if_pos (by decide), (h9 _).eq]
  rw [e4,
    sum_lanes (fun x => x5 (ix2 0 x) * x5 (ix2 1 x)) (fun x => (m (c, Proc.tc.devRef main_arg5) (ix1 x)).toReal * (m (c, Proc.tc.devRef main_arg6) (ix1 x)).toReal) (fun x => ?_),
    sum_lanes (fun x => x5 (ix2 2 x) * x5 (ix2 3 x)) (fun x => (m (c, Proc.tc.devRef main_arg7) (ix1 x)).toReal * (m (c, Proc.tc.devRef main_arg8) (ix1 x)).toReal) (fun x => ?_)]
  · rw [Ideal.exp_coe, Ideal.exp_coe, ← EReal.coe_sub, ← EReal.coe_add]; rfl
  · rw [h, h, host_lam, host_lam]
    by_cases hx : x.val < 64
    · simp [hx, (h7 _).eq, (h8 _).eq]
    · simp [hx]
  · rw [h, h, host_lam, host_lam]
    by_cases hx : x.val < 64
    · simp [hx, (h5 _).eq, (h6 _).eq]
    · simp [hx]

/-! ## The array -/

/-- A row's score in the kernel's terms is the plain score up to a number of the row. -/
theorem tau_score (q k : Fin 16384 → Fin 4 → Fin 64 → EReal) (r : Fin 512) (n : ℕ) :
    tau (fun d => (q (row t r) (hd t) d).toReal * (1 / 8) * (1 / Real.log 2)) (fun n d => (k (col n) (hd t) d).toReal) (slope2 (hd t).val) (grid0.coords t 1).val n * Real.log 2
      = score q k (hd t) (row t r) n + slopeR (hd t).val * r.val := by
  have hL : Real.log 2 ≠ 0 := (Real.log_pos one_lt_two).ne'
  have hr : ((row t r).val : ℝ) = 512 * ((grid0.coords t 1).val : ℝ) + r.val := by unfold row; push_cast; rfl
  unfold tau score slope2
  rw [hr]
  have e : ∑ d, (q (row t r) (hd t) d).toReal * (1 / 8) * (1 / Real.log 2) * (k (col n) (hd t) d).toReal
      = (∑ d, (q (row t r) (hd t) d).toReal * (k (col n) (hd t) d).toReal) * (1 / 8) * (1 / Real.log 2) := by
    rw [Finset.sum_mul, Finset.sum_mul]
    exact Finset.sum_congr rfl fun d _ => by ring
  rw [e]
  field_simp
  ring

theorem block_result (h0 : ∀ i, Fin' (m (c, Proc.tc.devRef main_arg0) i)) (h1 : ∀ i, Fin' (m (c, Proc.tc.devRef main_arg1) i)) (h2 : ∀ i, Fin' (m (c, Proc.tc.devRef main_arg2) i)) (h3 : ∀ i, Fin' (m (c, Proc.tc.devRef main_arg3) i)) (h4 : ∀ i, Fin' (m (c, Proc.tc.devRef main_arg4) i)) (h5 : ∀ i, Fin' (m (c, Proc.tc.devRef main_arg5) i)) (h6 : ∀ i, Fin' (m (c, Proc.tc.devRef main_arg6) i)) (h7 : ∀ i, Fin' (m (c, Proc.tc.devRef main_arg7) i)) (h8 : ∀ i, Fin' (m (c, Proc.tc.devRef main_arg8) i)) (h9 : ∀ i, Fin' (m (c, Proc.tc.devRef main_arg9) i)) (r : Fin 512) (l : Fin 128) :
    attnOut (iblk m c 0 t) (iblk m c 1 t) (iblk m c 2 t) (iblk m c 3 t) (iblk m c 4 t) (iblk m c 5 t) (iblk m c 6 t) (iblk m c 7 t) (iblk m c 8 t)
      (grid0.coords t 0).val (grid0.coords t 1).val (ix3 0 r l)
      = result (fun a b d => m (c, Proc.tc.devRef main_arg0) (ix3 a b d)) (fun a b d => m (c, Proc.tc.devRef main_arg1) (ix3 a b d)) (fun a b d => m (c, Proc.tc.devRef main_arg2) (ix3 a b d)) (fun a b d => m (c, Proc.tc.devRef main_arg3) (ix3 a b d)) (fun a b d => m (c, Proc.tc.devRef main_arg4) (ix3 a b d)) (fun x => m (c, Proc.tc.devRef main_arg5) (ix1 x)) (fun x => m (c, Proc.tc.devRef main_arg6) (ix1 x)) (fun x => m (c, Proc.tc.devRef main_arg7) (ix1 x)) (fun x => m (c, Proc.tc.devRef main_arg8) (ix1 x)) (m (c, Proc.tc.devRef main_arg9) (ix1 0)) (fun x => m (c, Proc.tc.devRef main_arg10) (ix1 x)) (hd t) (row t r) l := by
  refine (attn_real (blocks m c t h0 h1 h2 h3 h4) (tile_lt t) (iblk m c 5 t) (iblk m c 6 t) _ (lam_real m c h5 h6 h7 h8 h9 (iblk m c 5 t) (read5 m c t)) r l _ _ _ _
    (tau_score t (fun a b d => m (c, Proc.tc.devRef main_arg0) (ix3 a b d)) (fun a b d => m (c, Proc.tc.devRef main_arg2) (ix3 a b d)) r) (tau_score t (fun a b d => m (c, Proc.tc.devRef main_arg1) (ix3 a b d)) (fun a b d => m (c, Proc.tc.devRef main_arg3) (ix3 a b d)) r)).trans ?_
  rw [read5, read6, host_lam, host_gain, if_pos (by decide)]
  rfl

/-- The result array. -/
def G : Vec Ideal S4x16384x128 .bf16 := fun ix => result (fun a b d => m (c, Proc.tc.devRef main_arg0) (ix3 a b d)) (fun a b d => m (c, Proc.tc.devRef main_arg1) (ix3 a b d)) (fun a b d => m (c, Proc.tc.devRef main_arg2) (ix3 a b d)) (fun a b d => m (c, Proc.tc.devRef main_arg3) (ix3 a b d)) (fun a b d => m (c, Proc.tc.devRef main_arg4) (ix3 a b d)) (fun x => m (c, Proc.tc.devRef main_arg5) (ix1 x)) (fun x => m (c, Proc.tc.devRef main_arg6) (ix1 x)) (fun x => m (c, Proc.tc.devRef main_arg7) (ix1 x)) (fun x => m (c, Proc.tc.devRef main_arg8) (ix1 x)) (m (c, Proc.tc.devRef main_arg9) (ix1 0)) (fun x => m (c, Proc.tc.devRef main_arg10) (ix1 x)) (ix 0) (ix 1) (ix 2)

theorem array (h0 : ∀ i, Fin' (m (c, Proc.tc.devRef main_arg0) i)) (h1 : ∀ i, Fin' (m (c, Proc.tc.devRef main_arg1) i)) (h2 : ∀ i, Fin' (m (c, Proc.tc.devRef main_arg2) i)) (h3 : ∀ i, Fin' (m (c, Proc.tc.devRef main_arg3) i)) (h4 : ∀ i, Fin' (m (c, Proc.tc.devRef main_arg4) i)) (h5 : ∀ i, Fin' (m (c, Proc.tc.devRef main_arg5) i)) (h6 : ∀ i, Fin' (m (c, Proc.tc.devRef main_arg6) i)) (h7 : ∀ i, Fin' (m (c, Proc.tc.devRef main_arg7) i)) (h8 : ∀ i, Fin' (m (c, Proc.tc.devRef main_arg8) i)) (h9 : ∀ i, Fin' (m (c, Proc.tc.devRef main_arg9) i)) : (dats m 0 c).arrAt 9 cfg0.N = G m c := by
  refine (dats m 0 c).arrAt_eq_of_covers 9 _ (by decide +kernel) fun t hf y => ?_
  blk_simp
  rw [after_eq]
  change S1x512x128.Idx at y
  obtain ⟨r, l, rfl⟩ : ∃ r l, y = ix3 0 r l := ⟨y 1, y 2, (eq_ix3 y).trans (congrArg (fun e => ix3 e (y 1) (y 2)) (Subsingleton.elim (α := Fin 1) _ _))⟩
  refine (block_result m c t h0 h1 h2 h3 h4 h5 h6 h7 h8 h9 r l).trans ?_
  have he : (win0_9.blk t).view.emb (ix3 0 r l : S1x512x128.Idx) = (ix3 (hd t) (row t r) l : S4x16384x128.Idx) := by
    unfold hd row
    blk_ext [idx9 t]
  exact (congrArg (G m c) he).symm

end Cert.KernelIdeal.Attn
end
-- ==== Proof.Ref.lean ====
/- The reference's result as a composition of its stages. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

variable {F : FTy → Type} [FloatOps F]

/-- A row's number less a column's. -/
def dist : IVec S16384x16384 32 := subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))

/-- The columns a row sees. -/
def valid : IVec S4x16384x16384 1 := broadcastInDim S4x16384x16384 ![1, 2] bcast_S16384x16384_S4x16384x16384_1_2 (cmpi .sge dist (broadcastInDim S16384x16384 ![] bcast_S_S16384x16384 (constantI S_ 32 0#32)))

/-- The slopes of the four heads. -/
def slope : FVec F S4x1x1 .f32 := broadcastInDim S4x1x1 ![0] bcast_S4_S4x1x1_0 (Host.exp (mulf (broadcastInDim S4 ![] bcast_S_S4 (constant S_ .f32 0x3F317218#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32)))))

/-- What a score loses to the distance. -/
def bias : FVec F S4x16384x16384 .f32 := mulf (broadcastInDim S4x16384x16384 ![0, 1, 2] bcast_S4x1x1_S4x16384x16384_0_1_2 slope) (broadcastInDim S4x16384x16384 ![0, 1, 2] bcast_S1x16384x16384_S4x16384x16384_0_1_2 (broadcastInDim S1x16384x16384 ![1, 2] bcast_S16384x16384_S1x16384x16384_1_2 (sitofp .f32 dist)))

/-- One map's scores, past its row's column at minus infinity. -/
def logits (q k : Vec F S16384x4x64 .f32) : FVec F S4x16384x16384 .f32 := select valid (subf (mulf (Host.dotGeneral dot_S16384x4x64_S16384x4x64_S4x16384x16384_2_2_0_0_1_1 none q k) (broadcastInDim S4x16384x16384 ![] bcast_S_S4x16384x16384 (constant S_ .f32 0x3E000000#32))) bias) (broadcastInDim S4x16384x16384 ![] bcast_S_S4x16384x16384 (id (constant S_ .f32 0xFF800000#32)))

/-- The exponentials below the row's maximum. -/
def weights (z : FVec F S4x16384x16384 .f32) : FVec F S4x16384x16384 .f32 := select valid (Host.exp (subf z (broadcastInDim S4x16384x16384 ![0, 1, 2] bcast_S4x16384x1_S4x16384x16384_0_1_2 (broadcastInDim S4x16384x1 ![0, 1] bcast_S4x16384_S4x16384x1_0_1 (Host.reduce FloatOps.maximumf z (constant S_ .f32 0xFF800000#32) reducesTo_S4x16384x16384_S4x16384_d2 h_S_))))) (broadcastInDim S4x16384x16384 ![] bcast_S_S4x16384x16384 (id (constant S_ .f32 0x00000000#32)))

/-- One map's probabilities. -/
def probs (z : FVec F S4x16384x16384 .f32) : FVec F S4x16384x16384 .f32 := Host.divf (weights z) (broadcastInDim S4x16384x16384 ![0, 1, 2] bcast_S4x16384x1_S4x16384x16384_0_1_2 (maximumf (broadcastInDim S4x16384x1 ![0, 1] bcast_S4x16384_S4x16384x1_0_1 (Host.reduceAdd (weights z) (constant S_ .f32 0x00000000#32) reducesTo_S4x16384x16384_S4x16384_d2 h_S_)) (broadcastInDim S4x16384x1 ![] bcast_S_S4x16384x1 (constant S_ .f32 0x0DA24260#32))))

/-- The weight of the second map. -/
def lamOf (a5 a6 a7 a8 : Vec F S64 .f32) (a9 : Vec F S1 .f32) : FVec F S_ .f32 := addf (subf (Host.exp (Host.reduceAdd (mulf a5 a6) (constant S_ .f32 0x00000000#32) reducesTo_S64_S_d0 h_S_)) (Host.exp (Host.reduceAdd (mulf a7 a8) (constant S_ .f32 0x00000000#32) reducesTo_S64_S_d0 h_S_))) (shapeCast _ a9 shapeCasts_S1_S_)

/-- The difference of the maps, applied to the values. -/
def mix (p1 p2 : FVec F S4x16384x16384 .f32) (lam : FVec F S_ .f32) (v : Vec F S16384x4x128 .f32) : FVec F S4x16384x128 .f32 := Host.dotGeneral dot_S4x16384x16384_S16384x4x128_S4x16384x128_2_0_1_2_0_1 none (subf p1 (mulf (broadcastInDim S4x16384x16384 ![] bcast_S_S4x16384x16384 lam) p2)) v

/-- The norm, its gain and the final scale. -/
def finish (o : FVec F S4x16384x128 .f32) (a9 : Vec F S1 .f32) (g : Vec F S128 .f32) : FVec F S4x16384x128 .bf16 := truncf .bf16 (mulf (mulf (mulf o (broadcastInDim S4x16384x128 ![0, 1, 2] bcast_S4x16384x1_S4x16384x128_0_1_2 (Host.rsqrt (addf (Host.divf (broadcastInDim S4x16384x1 ![0, 1] bcast_S4x16384_S4x16384x1_0_1 (Host.reduceAdd (mulf o o) (constant S_ .f32 0x00000000#32) reducesTo_S4x16384x128_S4x16384_d2 h_S_)) (broadcastInDim S4x16384x1 ![] bcast_S_S4x16384x1 (constant S_ .f32 0x43000000#32))) (broadcastInDim S4x16384x1 ![] bcast_S_S4x16384x1 (constant S_ .f32 0x358637BD#32)))))) (broadcastInDim S4x16384x128 ![0, 1, 2] bcast_S1x1x128_S4x16384x128_0_1_2 (broadcastInDim S1x1x128 ![2] bcast_S128_S1x1x128_2 g))) (broadcastInDim S4x16384x128 ![] bcast_S_S4x16384x128 (subf (constant S_ .f32 0x3F800000#32) (shapeCast _ a9 shapeCasts_S1_S_)))) bitsLt_bf16_f32

theorem res_eq (m : (ℓ : Loc nD τ sig) → Buf (Elt F) ℓ) (c : Dev nD) :
    res_main_v89 m c = finish (mix (probs (logits (m ((c.tc : Thread nD τ).loc main_arg0)) (m ((c.tc : Thread nD τ).loc main_arg2))))
      (probs (logits (m ((c.tc : Thread nD τ).loc main_arg1)) (m ((c.tc : Thread nD τ).loc main_arg3))))
      (lamOf (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)))
      (m ((c.tc : Thread nD τ).loc main_arg4))) (m ((c.tc : Thread nD τ).loc main_arg9)) (m ((c.tc : Thread nD τ).loc main_arg10)) := by
  unfold res_main_v89 finish mix lamOf probs weights logits bias slope valid dist
  rfl

end Cert.ReferenceIdeal.Attn
end
-- ==== Proof.RefVal.lean ====
/- The reference's result, entry by entry. -/
module

public import proofs.«01_k».proof.Proof.Common
public import proofs.«01_k».proof.Proof.Ref

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.Attn Idealize.ShloMosaic.WordCmp

theorem word_sub (r c : Fin 16384) : (IntOp.subi (BitVec.ofNat 32 r.val) (BitVec.ofNat 32 c.val)).toInt = (r.val : ℤ) - c.val := by
  unfold IntOp.subi
  rw [BitVec.toInt_sub, toInt_ofNat_of_lt (by omega), toInt_ofNat_of_lt (by omega)]
  have := r.isLt; have := c.isLt
  rw [Int.bmod_eq_of_le (by norm_num; omega) (by norm_num; omega)]

theorem word_sees (r c : Fin 16384) {α : Type} (x y : α) :
    Scalar.select (IntOp.cmpi CmpIPredicate.sge (IntOp.subi (BitVec.ofNat 32 r.val) (BitVec.ofNat 32 c.val)) 0#32) x y = if c.val ≤ r.val then x else y := by
  unfold Scalar.select
  rw [cmpi_sge_eq, word_sub, show (0#32 : BitVec 32).toInt = 0 from rfl]
  by_cases h : c.val ≤ r.val
  · rw [if_pos h, if_pos (by rw [decide_eq_true (by omega : (0 : ℤ) ≤ (r.val : ℤ) - c.val)]; rfl)]
  · rw [if_neg h, if_neg (by rw [decide_eq_false (by omega : ¬ (0 : ℤ) ≤ (r.val : ℤ) - c.val)]; decide)]

theorem logits_real (q k : Vec Ideal S16384x4x64 .f32) (hq : ∀ i, Fin' (q i)) (hk : ∀ i, Fin' (k i)) (h : Fin 4) (r c : Fin 16384) :
    logits q k (ix3 h r c) = if c.val ≤ r.val then ((score (fun a b d => q (ix3 a b d)) (fun a b d => k (ix3 a b d)) h r c.val : ℝ) : EReal) else ⊥ := by
  pointwise [logits, bias, slope, valid, dist]
  rw [word_sees]
  split
  · unfold score
    rw [col_val, EReal.coe_sub, EReal.coe_mul, EReal.coe_mul, coe_sum', ofBits_eighth, ← slopeE_coe]
    congr 1
    · congr 1
      refine Finset.sum_congr rfl fun d _ => ?_
      rw [EReal.coe_mul, ← hq, ← hk]
    · congr 1
      show (((IntOp.subi (BitVec.ofNat 32 r.val) (BitVec.ofNat 32 c.val)).toInt : ℝ) : EReal) = _
      rw [word_sub]; push_cast; rfl
  · exact ofBits_bot

/-- The maximum of a row is one of its scores, and bounds them all. -/
theorem row_max (R : Fin 16384) (e : ℕ → ℝ) :
    ∃ M : ℝ, Finset.fold max (⊥ : EReal) (fun x : Fin 16384 => if x.val ≤ R.val then ((e x.val : ℝ) : EReal) else ⊥) Finset.univ = M
      ∧ ∃ c : Fin 16384, c.val ≤ R.val ∧ e c.val = M := by
  obtain ⟨c, _, hc⟩ := Finset.exists_mem_eq_sup (Finset.univ : Finset (Fin 16384)) ⟨R, Finset.mem_univ R⟩
    (fun x : Fin 16384 => if x.val ≤ R.val then ((e x.val : ℝ) : EReal) else ⊥)
  have hle := Finset.le_sup (f := fun x : Fin 16384 => if x.val ≤ R.val then ((e x.val : ℝ) : EReal) else ⊥) (Finset.mem_univ R)
  rw [hc] at hle
  by_cases h : c.val ≤ R.val
  · refine ⟨e c.val, ?_, c, h, rfl⟩
    have := hc
    rw [if_pos h] at this
    exact this
  · rw [if_neg h, if_pos le_rfl] at hle
    exact absurd (le_bot_iff.mp hle) (EReal.coe_ne_bot _)

theorem weights_real (z : FVec Ideal S4x16384x16384 .f32) (h : Fin 4) (r c : Fin 16384) (e : ℕ → ℝ) (M : ℝ)
    (hz : ∀ c : Fin 16384, z (ix3 h r c) = if c.val ≤ r.val then ((e c.val : ℝ) : EReal) else ⊥)
    (hM : Finset.fold max (⊥ : EReal) (fun x : Fin 16384 => if x.val ≤ r.val then ((e x.val : ℝ) : EReal) else ⊥) Finset.univ = M) :
    weights z (ix3 h r c) = ((seen r.val c.val (e c.val) * Real.exp (-M) : ℝ) : EReal) := by
  pointwise [weights, valid, dist]
  rw [word_sees]
  unfold seen
  simp only [hz, ofBits_bot, hM]
  split
  · rw [← EReal.coe_sub, Ideal.exp_coe, ← Real.exp_add, sub_eq_add_neg]
  · rw [zero_mul]; exact Ideal.ofBits_zero_f32

theorem probs_real (z : FVec Ideal S4x16384x16384 .f32) (h : Fin 4) (r c : Fin 16384) (e : ℕ → ℝ)
    (hz : ∀ c : Fin 16384, z (ix3 h r c) = if c.val ≤ r.val then ((e c.val : ℝ) : EReal) else ⊥) :
    probs z (ix3 h r c) = ((seen r.val c.val (e c.val) / ∑ c ∈ Finset.range 16384, seen r.val c (e c) : ℝ) : EReal) := by
  obtain ⟨M, hM, c0, h0, he⟩ := row_max r e
  obtain ⟨ε, hε, hε1⟩ := ofBits_tiny
  pointwise [probs]
  simp only [weights_real z h r _ e M hz hM]
  rw [← coe_sum', ← Finset.sum_mul, ← Finset.sum_range (fun c => seen r.val c (e c)), hε]
  have hD := den_pos r.val r.isLt e
  have h1 : ε ≤ (∑ c ∈ Finset.range 16384, seen r.val c (e c)) * Real.exp (-M) := by
    refine hε1.trans ?_
    have : seen r.val c0.val (e c0.val) ≤ ∑ c ∈ Finset.range 16384, seen r.val c (e c) :=
      Finset.single_le_sum (f := fun c => seen r.val c (e c)) (fun c _ => seen_nonneg _ _ _) (Finset.mem_range.mpr c0.isLt)
    refine le_trans (le_of_eq ?_) (mul_le_mul_of_nonneg_right this (Real.exp_pos (-M)).le)
    unfold seen
    rw [if_pos h0, he, ← Real.exp_add, add_neg_cancel, Real.exp_zero]
  rw [max_eq_left (EReal.coe_le_coe_iff.mpr h1), Ideal.div_coe (mul_pos hD (Real.exp_pos _)).ne', ← EReal.coe_mul]
  generalize (∑ c ∈ Finset.range 16384, seen r.val c (e c)) = D at hD
  generalize seen r.val c.val (e c.val) = x
  have hE := (Real.exp_pos (-M)).ne'
  generalize Real.exp (-M) = E at hE
  refine congrArg _ ?_
  have := hD.ne'
  field_simp

theorem mix_real (p1 p2 : FVec Ideal S4x16384x16384 .f32) (lam : FVec Ideal S_ .f32) (v : Vec Ideal S16384x4x128 .f32) (hv : ∀ i, Fin' (v i))
    (h : Fin 4) (r : Fin 16384) (l : Fin 128) (e1 e2 : ℕ → ℝ) (κ : ℝ) (hl : lam ix0 = (κ : EReal))
    (h1 : ∀ c : Fin 16384, p1 (ix3 h r c) = ((seen r.val c.val (e1 c.val) / ∑ c ∈ Finset.range 16384, seen r.val c (e1 c) : ℝ) : EReal))
    (h2 : ∀ c : Fin 16384, p2 (ix3 h r c) = ((seen r.val c.val (e2 c.val) / ∑ c ∈ Finset.range 16384, seen r.val c (e2 c) : ℝ) : EReal)) :
    mix p1 p2 lam v (ix3 h r l) = ((soft r.val e1 (vals (fun a b d => v (ix3 a b d)) h l) - κ * soft r.val e2 (vals (fun a b d => v (ix3 a b d)) h l) : ℝ) : EReal) := by
  pointwise [mix]
  have hv' : ∀ x : Fin 16384, v (ix3 x h l) = ((vals (fun a b d => v (ix3 a b d)) h l x.val : ℝ) : EReal) := fun x => by
    unfold vals; rw [col_val]; exact hv _
  simp only [h1, h2, hl, hv', ← EReal.coe_mul, ← EReal.coe_sub, ← coe_sum']
  refine congrArg _ ?_
  unfold soft
  rw [Finset.sum_range (fun c => seen r.val c (e1 c) * vals (fun a b d => v (ix3 a b d)) h l c),
    Finset.sum_range (fun c => seen r.val c (e2 c) * vals (fun a b d => v (ix3 a b d)) h l c), Finset.sum_div, Finset.sum_div, Finset.mul_sum, ← Finset.sum_sub_distrib]
  refine Finset.sum_congr rfl fun x _ => ?_
  ring

theorem lam_real (a5 a6 a7 a8 : Vec Ideal S64 .f32) (a9 : Vec Ideal S1 .f32) (h5 : ∀ i, Fin' (a5 i)) (h6 : ∀ i, Fin' (a6 i))
    (h7 : ∀ i, Fin' (a7 i)) (h8 : ∀ i, Fin' (a8 i)) (h9 : ∀ i, Fin' (a9 i)) :
    lamOf a5 a6 a7 a8 a9 ix0 = ((lamR (fun x => a5 (ix1 x)) (fun x => a6 (ix1 x)) (fun x => a7 (ix1 x)) (fun x => a8 (ix1 x)) (a9 (ix1 0)) : ℝ) : EReal) := by
  pointwise [lamOf]
  unfold lamR
  rw [EReal.coe_add, EReal.coe_sub, ← h9, ← Ideal.exp_coe, ← Ideal.exp_coe, coe_sum', coe_sum']
  simp only [EReal.coe_mul, (h5 _).eq, (h6 _).eq, (h7 _).eq, (h8 _).eq]

theorem finish_real (o : FVec Ideal S4x16384x128 .f32) (a9 : Vec Ideal S1 .f32) (g : Vec Ideal S128 .f32) (h : Fin 4) (r : Fin 16384) (l : Fin 128)
    (ρ : Fin 128 → ℝ) (ho : ∀ l, o (ix3 h r l) = (ρ l : EReal)) :
    finish o a9 g (ix3 h r l) = normed ρ (g (ix1 l)) (a9 (ix1 0)) l := by
  pointwise [finish]
  simp only [ho]
  rfl

/-- An element of the reference's result. -/
theorem ref_result (m : (ℓ : Loc nD τ sig) → Buf (Elt Ideal) ℓ) (c : Dev nD)
    (h0 : ∀ i, Fin' (m ((c.tc : Thread nD τ).loc main_arg0) i)) (h1 : ∀ i, Fin' (m ((c.tc : Thread nD τ).loc main_arg1) i))
    (h2 : ∀ i, Fin' (m ((c.tc : Thread nD τ).loc main_arg2) i)) (h3 : ∀ i, Fin' (m ((c.tc : Thread nD τ).loc main_arg3) i))
    (h4 : ∀ i, Fin' (m ((c.tc : Thread nD τ).loc main_arg4) i)) (h5 : ∀ i, Fin' (m ((c.tc : Thread nD τ).loc main_arg5) i))
    (h6 : ∀ i, Fin' (m ((c.tc : Thread nD τ).loc main_arg6) i)) (h7 : ∀ i, Fin' (m ((c.tc : Thread nD τ).loc main_arg7) i))
    (h8 : ∀ i, Fin' (m ((c.tc : Thread nD τ).loc main_arg8) i)) (h9 : ∀ i, Fin' (m ((c.tc : Thread nD τ).loc main_arg9) i))
    (h : Fin 4) (r : Fin 16384) (l : Fin 128) :
    res_main_v89 m c (ix3 h r l) = result
      (fun a b d => m ((c.tc : Thread nD τ).loc main_arg0) (ix3 a b d)) (fun a b d => m ((c.tc : Thread nD τ).loc main_arg1) (ix3 a b d))
      (fun a b d => m ((c.tc : Thread nD τ).loc main_arg2) (ix3 a b d)) (fun a b d => m ((c.tc : Thread nD τ).loc main_arg3) (ix3 a b d))
      (fun a b d => m ((c.tc : Thread nD τ).loc main_arg4) (ix3 a b d)) (fun x => m ((c.tc : Thread nD τ).loc main_arg5) (ix1 x))
      (fun x => m ((c.tc : Thread nD τ).loc main_arg6) (ix1 x)) (fun x => m ((c.tc : Thread nD τ).loc main_arg7) (ix1 x))
      (fun x => m ((c.tc : Thread nD τ).loc main_arg8) (ix1 x)) (m ((c.tc : Thread nD τ).loc main_arg9) (ix1 0))
      (fun x => m ((c.tc : Thread nD τ).loc main_arg10) (ix1 x)) h r l := by
  rw [res_eq]
  unfold result
  refine finish_real _ _ _ h r l _ fun l => ?_
  exact mix_real _ _ _ _ h4 h r l _ _ _ (lam_real _ _ _ _ _ h5 h6 h7 h8 h9)
    (fun c' => probs_real _ h r c' _ (fun c'' => logits_real _ _ h0 h2 h r c''))
    (fun c' => probs_real _ h r c' _ (fun c'' => logits_real _ _ h1 h3 h r c''))

end Cert.ReferenceIdeal.Attn
end
-- ==== Proof.Claims.lean ====
/- The claims, from the two programs' runs. -/
module

public import proofs.«01_k».proof.Defs
public import proofs.«01_k».proof.Proof.Gen.Kernel.Frame
public import proofs.«01_k».proof.Proof.Gen.Pre_finite
public import proofs.«01_k».proof.Proof.Result
public import proofs.«01_k».proof.Proof.RefVal

@[expose] public section

set_option maxRecDepth 16384

noncomputable section

open Idealize.ShloMosaic Idealize.ShloMosaic.TcCoe Idealize.SL.Sem

namespace Cert.Proof

open Cert.Attn

/-! ## The precondition -/

theorem ofBits_top : Ideal.ofBits .f32 0x7F800000#32 = ⊤ := by simp [Ideal.ofBits, Ideal.ieee]

/-- A number whose absolute value is below infinity is a real. -/
theorem fin_of_olt (x : EReal) (h : (FloatOps.cmpf (F := Ideal) (φ := .f32) CmpFPredicate.olt (max x (-x)) (Ideal.ofBits .f32 0x7F800000#32)) = 1#1) : Fin' x := by
  rw [ofBits_top] at h
  have hlt : max x (-x) < ⊤ := by
    by_contra hc
    rw [show FloatOps.cmpf (F := Ideal) (φ := .f32) CmpFPredicate.olt (max x (-x)) ⊤ = BitVec.ofBool (decide (max x (-x) < (⊤ : EReal))) from rfl, decide_eq_false hc] at h
    exact absurd h (by decide)
  have h1 : x ≠ ⊤ := fun e => by rw [e] at hlt; simp at hlt
  have h2 : x ≠ ⊥ := fun e => by rw [e] at hlt; simp at hlt
  exact (EReal.coe_toReal h1 h2).symm

theorem fins (m : (ℓ : Loc Cert.KernelIdeal.nD Cert.KernelIdeal.τ Cert.KernelIdeal.sig) → Buf (Elt Ideal) ℓ) (hm : Cert.Pre_KernelIdeal_finite m) (c : Dev Cert.KernelIdeal.nD) :
    (∀ i, Fin' (m (c, Proc.tc.devRef KernelIdeal.main_arg0) i))
    ∧ (∀ i, Fin' (m (c, Proc.tc.devRef KernelIdeal.main_arg1) i))
    ∧ (∀ i, Fin' (m (c, Proc.tc.devRef KernelIdeal.main_arg2) i))
    ∧ (∀ i, Fin' (m (c, Proc.tc.devRef KernelIdeal.main_arg3) i))
    ∧ (∀ i, Fin' (m (c, Proc.tc.devRef KernelIdeal.main_arg4) i))
    ∧ (∀ i, Fin' (m (c, Proc.tc.devRef KernelIdeal.main_arg5) i))
    ∧ (∀ i, Fin' (m (c, Proc.tc.devRef KernelIdeal.main_arg6) i))
    ∧ (∀ i, Fin' (m (c, Proc.tc.devRef KernelIdeal.main_arg7) i))
    ∧ (∀ i, Fin' (m (c, Proc.tc.devRef KernelIdeal.main_arg8) i))
    ∧ (∀ i, Fin' (m (c, Proc.tc.devRef KernelIdeal.main_arg9) i)) :=
  ⟨fun i => fin_of_olt _ (congrFun ((hm c).1) i),
    fun i => fin_of_olt _ (congrFun ((hm c).2.1) i),
    fun i => fin_of_olt _ (congrFun ((hm c).2.2.1) i),
    fun i => fin_of_olt _ (congrFun ((hm c).2.2.2.1) i),
    fun i => fin_of_olt _ (congrFun ((hm c).2.2.2.2.1) i),
    fun i => fin_of_olt _ (congrFun ((hm c).2.2.2.2.2.1) i),
    fun i => fin_of_olt _ (congrFun ((hm c).2.2.2.2.2.2.1) i),
    fun i => fin_of_olt _ (congrFun ((hm c).2.2.2.2.2.2.2.1) i),
    fun i => fin_of_olt _ (congrFun ((hm c).2.2.2.2.2.2.2.2.1) i),
    fun i => fin_of_olt _ (congrFun ((hm c).2.2.2.2.2.2.2.2.2) i)⟩

/-! ## The frames -/

theorem frame_p : Cert.quiescent_Kernel := fun m ρ _ => Cert.Kernel.Gen.frame (F := Bits) m ρ
theorem frame_pi : Cert.quiescent_KernelIdeal := fun m ρ _ => Cert.KernelIdeal.Gen.frame (F := Ideal) m ρ
theorem frame_pi_pre : Cert.quiescent_KernelIdeal_pre_finite := fun m ρ _ => Cert.KernelIdeal.Gen.frame (F := Ideal) m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-! ## The values -/

/-- The reference's result, from arguments that agree with the kernel's. -/
theorem ref_array (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : Cert.Pre_KernelIdeal_finite m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v89 m' c = Cert.KernelIdeal.Attn.G m c := by
  obtain ⟨h0, h1, h2, h3, h4, h5, h6, h7, h8, h9⟩ := fins m hm c
  funext ix
  rw [eq_ix3 ix]
  refine (Cert.ReferenceIdeal.Attn.ref_result m' c (fun i => by rw [e0]; exact h0 i) (fun i => by rw [e1]; exact h1 i) (fun i => by rw [e2]; exact h2 i) (fun i => by rw [e3]; exact h3 i) (fun i => by rw [e4]; exact h4 i) (fun i => by rw [e5]; exact h5 i) (fun i => by rw [e6]; exact h6 i) (fun i => by rw [e7]; exact h7 i) (fun i => by rw [e8]; exact h8 i) (fun i => by rw [e9]; exact h9 i) _ _ _).trans ?_
  rw [e0, e1, e2, e3, e4, e5, e6, e7, e8, e9, e10]
  rfl

theorem algebraic : Cert.algebraic_KernelIdeal_ReferenceIdeal_pre_finite := fun m g m' g' hm he =>
  ⟨fun c => Cert.KernelIdeal.Attn.G m c,
    (θ_run Cert.KernelIdeal.defs _ _).mono (fun r h c => by
      obtain ⟨h0, h1, h2, h3, h4, h5, h6, h7, h8, h9⟩ := fins m hm c
      exact ⟨(h c).1.trans (Cert.KernelIdeal.Attn.array m c h0 h1 h2 h3 h4 h5 h6 h7 h8 h9), (h c).2⟩)
      (Cert.KernelIdeal.Value.run_blocks (F := Ideal) m g),
    (θ_run Cert.ReferenceIdeal.defs _ _).mono (fun r h c => by
      obtain ⟨e0, e1, e2, e3, e4, e5, e6, e7, e8, e9, e10⟩ := he c
      exact ⟨(h c).1.trans (ref_array m m' c hm e0 e1 e2 e3 e4 e5 e6 e7 e8 e9 e10), (h c).2⟩)
      (Cert.ReferenceIdeal.Value.run (F := Ideal) m' g')⟩

end Cert.Proof
end
-- ==== Proof.FfnRun.lean ====
/- The experts' kernel at one grid point: what it leaves in its buffers, from what it finds there. -/
module

public import proofs.«01_k».proof.Proof.Gen.Kernel2Ideal.Launch
public import proofs.«01_k».proof.Proof.Gen.Kernel2Ideal.Skeleton
public import proofs.«01_k».proof.Proof.Gen.Kernel2Ideal
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel2Ideal.Experts

open Cert.Kernel2Ideal Cert.Kernel2Ideal.Gen

variable {F : FTy → Type} [FloatOps F]

local notation "𝕄" => MT nD τ sig Unit (Elt F) ℕ (UR sig nD τ) ℕ

/-- The two tables: a tile's expert, and the number of tiles in use. -/
abbrev tabE : Memref sig .tc .smem S72 .i32 := Memref.whole main_arg5
abbrev tabN : Memref sig .tc .smem S1 .i32 := Memref.whole main_arg6

/-- A table held for reading. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The number of tiles in use, as the body loads it. -/
abbrev used (c : Dev nD) (f : Buf (Elt F) (tabN.view.loc (c : Thread nD τ))) : BitVec 32 :=
  tabN.view.readAt (Elt F) (Rect.unit (s := S1) ![0] S1.size inb_S1_S1_0).toLoadRect f (Shape.Idx.first (numel1_S1.symm ▸ Nat.one_pos))

/-- The point is a tile's first. -/
def isFirst (i : grid0.Coords) : Prop := Scalar.cmpi .ne (Scalar.extui (Scalar.cmpi .eq (BitVec.ofNat 32 (i 1).val) 0#32)) 0#32 = 1#1

open Classical in
/-- The normed rows after the point. -/
def nextH (i : grid0.Coords) (n : BitVec 32) (x0 : Vec F S512x2048 .f32) (x1 : Vec F S1x2048 .f32) (a : Vec F S512x2048 .bf16) : Vec F S512x2048 .bf16 :=
  if k0_cond1 i n = 1#1 ∧ isFirst i then k0_pay1 x0 x1 else a

open Classical in
/-- The running sum after the point. -/
def nextA (i : grid0.Coords) (n : BitVec 32) (h : Vec F S512x2048 .bf16) (x2 x3 : Vec F S1x2048x512 .bf16) (x4 : Vec F S1x512x2048 .bf16) (b : Vec F S512x2048 .f32) : Vec F S512x2048 .f32 :=
  if k0_cond1 i n = 1#1 then k0_pay3 h x2 x3 (if isFirst i then k0_pay2 else b) x4 else b

open Classical in
/-- The result block after the point. -/
def nextO (i : grid0.Coords) (n : BitVec 32) (b o : Vec F S512x2048 .f32) : Vec F S512x2048 .f32 :=
  if k0_cond1 i n = 1#1 then (if k0_cond3 i = 1#1 then b else o) else k0_pay4

/-- A load of a whole buffer after a store of the whole reads what was stored. -/
theorem readCov_full {sp : Space} {s : Shape} {e : EltTy} (v : View sig .tc sp s e) {off off' : Fin s.rank → ℕ} (inb : ∀ a, off a + s.size a ≤ s.size a)
    (inb' : ∀ a, off' a + s.size a ≤ s.size a) (w : (Rect.unit off' s.size inb').shape.Idx → Elt F e) (L : List (View.Piece (Elt F) s e)) :
    v.readCov (⟨Rect.unit off' s.size inb', w⟩ :: L) (Rect.unit off s.size inb).toLoadRect = w :=
  View.readAt_writes_full v _ inb inb' w L

set_option maxHeartbeats 2000000 in
/-- The kernel at a grid point, from any contents of its buffers. -/
theorem run (c : Dev nD) (i : grid0.Coords) (arg4 : Memref sig .tc .vmem S512x2048 .f32) (harg4 : arg4.IsWhole) (arg5 : Memref sig .tc .vmem S1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x2048 .f32) (x1 : Vec F S1x2048 .f32) (x2 x3 : Vec F S1x2048x512 .bf16) (x4 : Vec F S1x512x2048 .bf16) (o : Vec F S512x2048 .f32) (a : Vec F S512x2048 .bf16) (b : Vec F S512x2048 .f32)
    (te : Buf (Elt F) (tabE.view.loc (c : Thread nD τ))) (tn : Buf (Elt F) (tabN.view.loc (c : Thread nD τ)))
    (hd : k0_cond4 i (used c tn) = 1#1 ↔ ¬k0_cond1 i (used c tn) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ owns (c : Thread nD τ) arg9 fullShare o ∗ owns (c : Thread nD τ) arg10 fullShare a ∗ owns (c : Thread nD τ) arg11 fullShare b ∗ held c tabE te ∗ held c tabN tn
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
          ∗ owns (c : Thread nD τ) arg9 fullShare (nextO i (used c tn) (nextA i (used c tn) (nextH i (used c tn) x0 x1 a) x2 x3 x4 b) o)
          ∗ owns (c : Thread nD τ) arg10 fullShare (nextH i (used c tn) x0 x1 a)
          ∗ owns (c : Thread nD τ) arg11 fullShare (nextA i (used c tn) (nextH i (used c tn) x0 x1 a) x2 x3 x4 b)
          ∗ held c tabE te ∗ held c tabN tn) -∗ K ⟨⟩))
      ⊢ wp frame (wpE (defs₀ (F := F)) Variants.none c none) E
          (cc0_ffn i tabE (Memref.isWhole_whole _) tabN (Memref.isWhole_whole _) arg4 harg4 arg5 harg5 arg6 harg6 arg7 harg7 arg8 harg8 arg9 harg9 arg10 harg10 arg11 harg11) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1, Hk⟩
  by_cases h1 : k0_cond1 i (used c tn) = 1#1
  on_goal 1 =>
    have h4 : ¬k0_cond4 i (used c tn) = 1#1 := fun h => hd.mp h h1
    by_cases h2 : isFirst i <;> by_cases h3 : k0_cond3 i = 1#1
    all_goals sl_exec (disch := first | sl_exact h1 | sl_exact h2 | sl_exact h3 | sl_exact h4)
  on_goal 5 =>
    have h4 : k0_cond4 i (used c tn) = 1#1 := hd.mpr h1
    sl_exec (disch := first | sl_exact h1 | sl_exact h4)
  all_goals
    sl_step
    iapply Hk
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]; · iexists _; isplitr; swap; iexact H4; ipureintro; exact hf4
    isplitl [H5]
    · iexists _; isplitr; swap; iexact H5; ipureintro
      repeat delta run.sl.HS0_1 run.sl.HS0_1_1 run.sl.HS1_1 run.sl.HS1_1_1 run.sl.HS1_1_2 run.sl.HS1_2 run.sl.v11 run.sl.v11_1 run.sl.v22 run.sl.v22_1 run.sl.v33 run.sl.v33_1
      simp (config := { proj := false }) only [*, readCov_full, nextO, nextA, nextH, if_true, if_false, _root_.true_and, _root_.and_true, _root_.and_false, _root_.false_and, View.read_writes_full, View.readAt_full, View.readAt_writes_full]
    isplitl [HS0]
    · iexists _; isplitr; swap; iexact HS0; ipureintro
      repeat delta run.sl.HS0_1 run.sl.HS0_1_1 run.sl.HS1_1 run.sl.HS1_1_1 run.sl.HS1_1_2 run.sl.HS1_2 run.sl.v11 run.sl.v11_1 run.sl.v22 run.sl.v22_1 run.sl.v33 run.sl.v33_1
      simp (config := { proj := false }) only [*, readCov_full, nextO, nextA, nextH, if_true, if_false, _root_.true_and, _root_.and_true, _root_.and_false, _root_.false_and, View.read_writes_full, View.readAt_full, View.readAt_writes_full]
    isplitl [HS1]
    · iexists _; isplitr; swap; iexact HS1; ipureintro
      repeat delta run.sl.HS0_1 run.sl.HS0_1_1 run.sl.HS1_1 run.sl.HS1_1_1 run.sl.HS1_1_2 run.sl.HS1_2 run.sl.v11 run.sl.v11_1 run.sl.v22 run.sl.v22_1 run.sl.v33 run.sl.v33_1
      simp (config := { proj := false }) only [*, readCov_full, nextO, nextA, nextH, if_true, if_false, _root_.true_and, _root_.and_true, _root_.and_false, _root_.false_and, View.read_writes_full, View.readAt_full, View.readAt_writes_full]
    isplitl [HT0]; · iexact HT0
    iexact HT1

end Cert.Kernel2Ideal.Experts

end
-- ==== Proof.FfnFrame.lean ====
/- The experts' call: its grid's run, for any float values and any admissible tables. -/
module

public import proofs.«01_k».proof.Proof.FfnRun
public import Idealize.ShloMosaic.Lib.Pipeline.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

namespace Cert.Kernel2Ideal.Experts

open Cert.Kernel2Ideal Cert.Kernel2Ideal.Gen

variable {F : FTy → Type} [FloatOps F]

local notation "𝕄" => MT nD τ sig Unit (Elt F) ℕ (UR sig nD τ) ℕ

/-! ## The conditions of a point -/

theorem ne_extui : ∀ b : BitVec 1, Scalar.cmpi .ne (Scalar.extui b) 0#32 = b := by decide

theorem cond4_iff (i : grid0.Coords) (n : BitVec 32) : k0_cond4 i n = 1#1 ↔ ¬k0_cond1 i n = 1#1 := by
  unfold k0_cond4 k0_cond1
  simp only [ne_extui]
  show BitVec.ofBool (n.sle (BitVec.ofNat 32 (i 0).val)) = 1#1 ↔ ¬BitVec.ofBool ((BitVec.ofNat 32 (i 0).val).slt n) = 1#1
  rw [BitVec.sle_eq_not_slt]
  cases (BitVec.ofNat 32 (i 0).val).slt n <;> decide

/-- The point's tile and its block of the hidden axis. -/
theorem coord0 (t : Fin grid0.N) : (grid0.coords t 0).val = t.val / 11 := by
  have ht : t.val < 792 := Nat.lt_of_lt_of_eq t.isLt N_0
  have e : (grid0.coords t 0).val = t.val / 11 % 72 := Pipeline.Grid.coords_val t 0 (by decide) rfl
  rw [e]; omega
theorem coord1 (t : Fin grid0.N) : (grid0.coords t 1).val = t.val % 11 := by
  have e : (grid0.coords t 1).val = t.val / 1 % 11 := Pipeline.Grid.coords_val t 1 (by decide) rfl
  rw [e, Nat.div_one]

theorem first_iff (t : Fin grid0.N) : isFirst (grid0.coords t) ↔ t.val % 11 = 0 := by
  simp only [isFirst, coord1]; word_cmp
theorem last_iff (t : Fin grid0.N) : k0_cond3 (grid0.coords t) = 1#1 ↔ t.val % 11 = 10 := by
  simp only [k0_cond3, coord1]; word_cmp

variable (m : (ℓ : Loc nD τ sig) → Buf (Elt F) ℓ) (ρ : Dev nD → PrngReg)

/-! ## The arrays and the tables as the call finds them -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array no host operation before the call writes. -/
theorem V_kept (c : Dev nD) (b : Ref sig .tc) (h : b = main_arg0 ∨ b = main_arg1 ∨ b = main_arg2 ∨ b = main_arg3 ∨ b = main_arg4 ∨ b = main_arg5 ∨ b = main_arg6) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases h with h | h | h | h | h | h | h <;> subst h <;> (repeat' apply And.intro) <;> exact StableHlo.devRef_ne_of_ne (by decide)))

/-- The tables, read off the one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tables name blocks inside the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem ΦT_eq (c : Dev nD) : (Pipeline.ΦT pre0 (tbl m) c : sProp 𝕄) = iprop(held c tabE (tbl m 0) ∗ held c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of tiles in use. -/
def cnt : BitVec 32 := used 0 (tbl m 1)
theorem used_eq (c : Dev nD) : used c (tbl m 1) = cnt m := rfl
theorem atD_eq : (tbl m).atD 1 ![0] = cnt m := by
  unfold Pipeline.Prefetch.Contents.atD
  rw [dif_pos (by decide)]
  rfl

/-- Tile `r` is in use. -/
def live (r : ℕ) : Prop := (BitVec.ofNat 32 r).slt (cnt m) = true
theorem live_iff (t : Fin grid0.N) : k0_cond1 (grid0.coords t) (cnt m) = 1#1 ↔ live m (t.val / 11) := by
  unfold k0_cond1 live
  simp only [ne_extui, coord0]
  show BitVec.ofBool ((BitVec.ofNat 32 (t.val / 11)).slt (cnt m)) = 1#1 ↔ _
  cases (BitVec.ofNat 32 (t.val / 11)).slt (cnt m) <;> decide

theorem idle_at (a : (pcfg0 (F := F)).Adm) (w : Fin 6) (i : grid0.Coords) : (cfg0 a).idle w i = idle0 a.1 w i := rfl

theorem idle0_out (i : grid0.Coords) :
    idle0 (tbl m) 5 i = (!((k0_cond1 i (cnt m) == 1#1) && (k0_cond3 i == 1#1)) && !(k0_cond4 i (cnt m) == 1#1)) := by
  rw [← atD_eq]

theorem idle_iff (hO : Ok m) (t : Fin (cfgM m hO).N) :
    (cfgM m hO).idle 5 ((cfgM m hO).grid.coords t) = true ↔ live m (t.val / 11) ∧ t.val % 11 ≠ 10 := by
  have e1 : (k0_cond1 (grid0.coords t) (cnt m) == 1#1) = true ↔ live m (t.val / 11) := by rw [beq_iff_eq]; exact live_iff m t
  have e3 : (k0_cond3 (grid0.coords t) == 1#1) = true ↔ t.val % 11 = 10 := by rw [beq_iff_eq]; exact last_iff t
  have e4 : (k0_cond4 (grid0.coords t) (cnt m) == 1#1) = true ↔ ¬live m (t.val / 11) := by rw [beq_iff_eq, cond4_iff]; exact not_congr (live_iff m t)
  have e : (cfgM m hO).idle 5 ((cfgM m hO).grid.coords t)
      = (!((k0_cond1 (grid0.coords t) (cnt m) == 1#1) && (k0_cond3 (grid0.coords t) == 1#1)) && !(k0_cond4 (grid0.coords t) (cnt m) == 1#1)) := (idle_at (adm m hO) 5 (grid0.coords t)).trans (idle0_out m (grid0.coords t))
  rw [e]
  rw [← e1] at e4
  show _ ↔ _ ∧ ¬(t.val % 11 = 10)
  rw [← e1, ← e3]
  clear e e1 e3
  revert e4
  generalize (k0_cond1 (grid0.coords t) (cnt m) == 1#1) = a
  generalize (k0_cond3 (grid0.coords t) == 1#1) = b
  generalize (k0_cond4 (grid0.coords t) (cnt m) == 1#1) = d
  revert a b d
  decide

theorem flush_iff (hO : Ok m) : ∀ t : Fin (cfgM m hO).N, ((cfgM m hO).win 5).flush t = true ↔ t.val % 11 = 10 :=
  (fun t => Pipeline.Window.flushOf_reads cc0_transform_5 reads0_5 hreads0_5 0 (by decide) (by decide) (Pipeline.Window.sep_of_coord cc0_transform_5 0 0 (fun _ => rfl) (by decide)) (P := 11) (m := 10) (by decide) rfl t : ∀ t : Fin grid0.N, Pipeline.Window.flushOf grid0 true cc0_transform_5 t = true ↔ t.val % 11 = 10)

/-! ## What the scratch buffers hold -/

/-- A window's block at a point. -/
def blk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The first point of a point's tile. -/
def fst {N : ℕ} (t : Fin N) : Fin N := ⟨t.val - t.val % 11, by have := t.isLt; omega⟩

/-- The tile's normed rows. -/
def hAt (hO : Ok m) (c : Dev nD) (t : Fin (cfgM m hO).N) : Vec F S512x2048 .bf16 := k0_pay1 (blk m hO c 0 (fst t)) (blk m hO c 1 (fst t))

/-- The tile's sum over the blocks of the hidden axis so far. -/
def accAt (hO : Ok m) (c : Dev nD) : (n : ℕ) → n < (cfgM m hO).N → Vec F S512x2048 .f32
  | 0, h => k0_pay3 (hAt m hO c ⟨0, h⟩) (blk m hO c 2 ⟨0, h⟩) (blk m hO c 3 ⟨0, h⟩) k0_pay2 (blk m hO c 4 ⟨0, h⟩)
  | n + 1, h => k0_pay3 (hAt m hO c ⟨n + 1, h⟩) (blk m hO c 2 ⟨n + 1, h⟩) (blk m hO c 3 ⟨n + 1, h⟩)
      (if (n + 1) % 11 = 0 then k0_pay2 else accAt hO c n (Nat.lt_of_succ_lt h)) (blk m hO c 4 ⟨n + 1, h⟩)

/-- Before point `n` inside a tile in use, the scratch buffers hold the tile's rows and its sum. -/
def Inv (hO : Ok m) (c : Dev nD) (n : ℕ) (a : Vec F S512x2048 .bf16) (b : Vec F S512x2048 .f32) : Prop :=
  n % 11 ≠ 0 → live m (n / 11) → ∀ h : n - 1 < (cfgM m hO).N, a = hAt m hO c ⟨n - 1, h⟩ ∧ b = accAt m hO c (n - 1) h

theorem step (hO : Ok m) (c : Dev nD) (t : Fin (cfgM m hO).N) (a : Vec F S512x2048 .bf16) (b : Vec F S512x2048 .f32)
    (hl : live m (t.val / 11)) (hi : Inv m hO c t.val a b) :
    nextH (grid0.coords t) (cnt m) (blk m hO c 0 t) (blk m hO c 1 t) a = hAt m hO c t
    ∧ nextA (grid0.coords t) (cnt m) (hAt m hO c t) (blk m hO c 2 t) (blk m hO c 3 t) (blk m hO c 4 t) b = accAt m hO c t.val t.isLt := by
  have h1 := (live_iff m t).mpr hl
  obtain ⟨n, hn⟩ := t
  unfold nextH nextA
  simp only [h1, if_true, _root_.true_and, first_iff]
  by_cases h0 : n % 11 = 0
  · constructor
    · rw [if_pos h0]; unfold hAt
      rw [show fst (⟨n, hn⟩ : Fin (cfgM m hO).N) = ⟨n, hn⟩ from Fin.ext (by simp only [fst]; omega)]
    · rw [if_pos h0]
      cases n with
      | zero => rfl
      | succ k => rw [accAt, if_pos h0]
  · have hi' := hi h0 hl (by omega)
    constructor
    · rw [if_neg h0, hi'.1]; unfold hAt
      rw [show fst (⟨n - 1, by omega⟩ : Fin (cfgM m hO).N) = fst ⟨n, hn⟩ from Fin.ext (by simp only [fst]; omega)]
    · rw [if_neg h0]
      cases n with
      | zero => exact absurd rfl h0
      | succ k => rw [accAt, if_neg h0, hi'.2]; rfl

open Classical in
/-- The result block a tile ends with. -/
def outAt (hO : Ok m) (c : Dev nD) (t : Fin (cfgM m hO).N) : Vec F S512x2048 .f32 :=
  if live m (t.val / 11) then accAt m hO c t.val t.isLt else k0_pay4

/-! ## The body at every point, and the call -/

abbrev sc0 : Memref sig .tc .vmem S512x2048 .bf16 := Memref.whole cc0_scratch0
abbrev sc1 : Memref sig .tc .vmem S512x2048 .f32 := Memref.whole cc0_scratch1

theorem ΦA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What holds before point `n`. -/
def Φ (hO : Ok m) (c : Dev nD) (n : ℕ) : sProp 𝕄 :=
  iprop(∃ a b, ⌜Inv m hO c n a b⌝ ∗ owns (c : Thread nD τ) sc0 fullShare a ∗ owns (c : Thread nD τ) sc1 fullShare b ∗ (∃ r, prngReg c r)
    ∗ held c tabE (tbl m 0) ∗ held c tabN (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => outAt m hO c t
  Φ t := Φ m hO c t.val
  q _ := fullShare
  owed _ := 0

theorem A_eq (hO : Ok m) (c : Dev nD) (w : Fin (cfgM m hO).W) : (dats m hO 0 c).A w = V m c (Pipeline.arrRef spec0 w) := by
  dsimp only [dats]
theorem Φ_start (hO : Ok m) (c : Dev nD) (t : Fin (cfgM m hO).N) : (dats m hO 0 c).Φ t.castSucc = Φ m hO c t.val := by
  dsimp only [dats]; exact Pipeline.Dat.Φ_castSucc (fun n _ => Φ m hO c n) t
theorem Φ_end (hO : Ok m) (c : Dev nD) (t : Fin (cfgM m hO).N) : (dats m hO 0 c).Φ t.succ = Φ m hO c (t.val + 1) := by
  dsimp only [dats]; rfl
theorem after5 (hO : Ok m) (c : Dev nD) (t : Fin (cfgM m hO).N) : (dats m hO 0 c).after 5 t = outAt m hO c t := by
  dsimp only [dats]; try rfl

/-- An input's staging buffer holds its block at every point. -/
theorem before_in (hO : Ok m) (c : Dev nD) (w : Fin (cfgM m hO).W) (t : Fin (cfgM m hO).N) (d) (hw : ((cfgM m hO).win w).isOut = false) (hl : ∀ i, (cfgM m hO).idle w i = false)
    (hclip : ∀ t t' : Fin (cfgM m hO).N, ((cfgM m hO).win w).index t = ((cfgM m hO).win w).index t' → ((cfgM m hO).win w).clip ((cfgM m hO).grid.coords t) = ((cfgM m hO).win w).clip ((cfgM m hO).grid.coords t'))
    (hk : ∀ t, ((cfgM m hO).win w).cut ((cfgM m hO).grid.coords t) ((dats m hO 0 c).after w t) = blk m hO c w t) :
    (dats m hO 0 c).before w t d = (dats m hO 0 c).fetched w t d :=
  (dats m hO 0 c).before_in_eq_fetched w hw hl hclip (fun t => (hk t).trans (by unfold Dat.blockOf blk; rw [A_eq])) t d

theorem before0 (hO : Ok m) (c : Dev nD) (t : Fin (cfgM m hO).N) (d) : (dats m hO 0 c).before 0 t d = blk m hO c 0 t :=
  (before_in m hO c 0 t d rfl (fun _ => rfl) (fun _ _ _ => rfl) (fun _ => by dsimp only [dats]; rfl)).trans (by unfold Dat.fetched Dat.blockOf blk; rw [A_eq]; rfl)
theorem before1 (hO : Ok m) (c : Dev nD) (t : Fin (cfgM m hO).N) (d) : (dats m hO 0 c).before 1 t d = blk m hO c 1 t :=
  (before_in m hO c 1 t d rfl (fun _ => rfl) (fun _ _ _ => rfl) (fun _ => by dsimp only [dats]; rfl)).trans (by unfold Dat.fetched Dat.blockOf blk; rw [A_eq]; rfl)
theorem before2 (hO : Ok m) (c : Dev nD) (t : Fin (cfgM m hO).N) (d) : (dats m hO 0 c).before 2 t d = blk m hO c 2 t :=
  (before_in m hO c 2 t d rfl (fun _ => rfl) (fun _ _ _ => rfl) (fun _ => by dsimp only [dats]; rfl)).trans (by unfold Dat.fetched Dat.blockOf blk; rw [A_eq]; rfl)
theorem before3 (hO : Ok m) (c : Dev nD) (t : Fin (cfgM m hO).N) (d) : (dats m hO 0 c).before 3 t d = blk m hO c 3 t :=
  (before_in m hO c 3 t d rfl (fun _ => rfl) (fun _ _ _ => rfl) (fun _ => by dsimp only [dats]; rfl)).trans (by unfold Dat.fetched Dat.blockOf blk; rw [A_eq]; rfl)
theorem before4 (hO : Ok m) (c : Dev nD) (t : Fin (cfgM m hO).N) (d) : (dats m hO 0 c).before 4 t d = blk m hO c 4 t :=
  (before_in m hO c 4 t d rfl (fun _ => rfl) (fun _ _ _ => rfl) (fun _ => by dsimp only [dats]; rfl)).trans (by unfold Dat.fetched Dat.blockOf blk; rw [A_eq]; rfl)

/-- The windows' staging buffers at a point. -/
abbrev stg (hO : Ok m) (w : Fin 6) (t : Fin (cfgM m hO).N) := (spec0 w).stage ((cfgM m hO).slots t w)

/-- An input's staging buffer is left as it was found. -/
theorem leaves0 (hO : Ok m) (c : Dev nD) (t : Fin (cfgM m hO).N) : (dats m hO 0 c).leavesExact 0 t = owns (c : Thread nD τ) (stg m hO 0 t) fullShare (blk m hO c 0 t) := rfl
theorem leaves1 (hO : Ok m) (c : Dev nD) (t : Fin (cfgM m hO).N) : (dats m hO 0 c).leavesExact 1 t = owns (c : Thread nD τ) (stg m hO 1 t) fullShare (blk m hO c 1 t) := rfl
theorem leaves2 (hO : Ok m) (c : Dev nD) (t : Fin (cfgM m hO).N) : (dats m hO 0 c).leavesExact 2 t = owns (c : Thread nD τ) (stg m hO 2 t) fullShare (blk m hO c 2 t) := rfl
theorem leaves3 (hO : Ok m) (c : Dev nD) (t : Fin (cfgM m hO).N) : (dats m hO 0 c).leavesExact 3 t = owns (c : Thread nD τ) (stg m hO 3 t) fullShare (blk m hO c 3 t) := rfl
theorem leaves4 (hO : Ok m) (c : Dev nD) (t : Fin (cfgM m hO).N) : (dats m hO 0 c).leavesExact 4 t = owns (c : Thread nD τ) (stg m hO 4 t) fullShare (blk m hO c 4 t) := rfl

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg m hO 0 t) fullShare ((dats m hO 0 c).before 0 t d))
    ∗ (∃ d, owns (c : Thread nD τ) (stg m hO 1 t) fullShare ((dats m hO 0 c).before 1 t d))
    ∗ (∃ d, owns (c : Thread nD τ) (stg m hO 2 t) fullShare ((dats m hO 0 c).before 2 t d))
    ∗ (∃ d, owns (c : Thread nD τ) (stg m hO 3 t) fullShare ((dats m hO 0 c).before 3 t d))
    ∗ (∃ d, owns (c : Thread nD τ) (stg m hO 4 t) fullShare ((dats m hO 0 c).before 4 t d))
    ∗ (∃ d, owns (c : Thread nD τ) (stg m hO 5 t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t ∗ (dats m hO 0 c).leavesExact 4 t ∗ (dats m hO 0 c).leavesExact 5 t)

/-- The body at a point. -/
abbrev bodyAt (hO : Ok m) (t : Fin (cfgM m hO).N) : Prog (TpuEff nD τ sig (Elt F) Λ₀ .tc) PUnit :=
  cc0_ffn (grid0.coords t) tabE (Memref.isWhole_whole _) tabN (Memref.isWhole_whole _) (stg m hO 0 t) (hstage0_0 (((cfgM m hO).slots t 0).cast nbuf0_0)) (stg m hO 1 t) (hstage0_1 (((cfgM m hO).slots t 1).cast nbuf0_1))
    (stg m hO 2 t) (hstage0_2 (((cfgM m hO).slots t 2).cast nbuf0_2)) (stg m hO 3 t) (hstage0_3 (((cfgM m hO).slots t 3).cast nbuf0_3)) (stg m hO 4 t) (hstage0_4 (((cfgM m hO).slots t 4).cast nbuf0_4))
    (stg m hO 5 t) (hstage0_5 (((cfgM m hO).slots t 5).cast nbuf0_5)) sc0 (Memref.isWhole_whole _) sc1 (Memref.isWhole_whole _)

/-- The result block the body leaves, in the three cases. -/
theorem nextO_last (t : Fin grid0.N) (b o : Vec F S512x2048 .f32) (hl : live m (t.val / 11)) (h : t.val % 11 = 10) : nextO (grid0.coords t) (cnt m) b o = b := by
  unfold nextO; rw [if_pos ((live_iff m t).mpr hl), if_pos ((last_iff t).mpr h)]
theorem nextO_mid (t : Fin grid0.N) (b o : Vec F S512x2048 .f32) (hl : live m (t.val / 11)) (h : ¬t.val % 11 = 10) : nextO (grid0.coords t) (cnt m) b o = o := by
  unfold nextO; rw [if_pos ((live_iff m t).mpr hl), if_neg (fun g => h ((last_iff t).mp g))]
theorem nextO_dead (t : Fin grid0.N) (b o : Vec F S512x2048 .f32) (hl : ¬live m (t.val / 11)) : nextO (grid0.coords t) (cnt m) b o = k0_pay4 := by
  unfold nextO; rw [if_neg (fun g => hl ((live_iff m t).mp g))]

/-- The result block after the body is what the proof data say of it. -/
theorem leaves_out (hO : Ok m) (c : Dev nD) (t : Fin (cfgM m hO).N) (a : Vec F S512x2048 .bf16) (b : Vec F S512x2048 .f32) (d : Vec F S512x2048 .f32)
    (hi : Inv m hO c t.val a b) :
    owns (c : Thread nD τ) (stg m hO 5 t) fullShare (nextO (grid0.coords t) (used c (tbl m 1)) (nextA (grid0.coords t) (used c (tbl m 1)) (nextH (grid0.coords t) (used c (tbl m 1)) (blk m hO c 0 t) (blk m hO c 1 t) a) (blk m hO c 2 t) (blk m hO c 3 t) (blk m hO c 4 t) b)
        ((dats m hO 0 c).before 5 t d))
      ⊢ ((dats m hO 0 c).leavesExact 5 t : sProp 𝕄) := by
  rw [used_eq m c]
  by_cases hl : live m (t.val / 11)
  · have hs := step m hO c t a b hl hi
    rw [hs.1, hs.2]
    by_cases h10 : t.val % 11 = 10
    · have hid : (cfgM m hO).idle 5 ((cfgM m hO).grid.coords t) = false := by
        rw [← Bool.not_eq_true, idle_iff]; exact fun h => h.2 h10
      unfold Dat.leavesExact
      rw [hid, after5]
      unfold outAt
      rw [if_pos hl]
      refine (Entails.of_eq (congrArg (owns (c : Thread nD τ) (stg m hO 5 t) fullShare) (nextO_last m t _ _ hl h10))).trans ?_
      exact .rfl
    · have hid : (cfgM m hO).idle 5 ((cfgM m hO).grid.coords t) = true := by rw [idle_iff]; exact ⟨hl, h10⟩
      have hf : ((cfgM m hO).win 5).flush t = false := by rw [← Bool.not_eq_true, flush_iff]; exact h10
      rw [(dats m hO 0 c).leavesExact_idle 5 t hid hf]
      refine (Entails.of_eq (congrArg (owns (c : Thread nD τ) (stg m hO 5 t) fullShare) (nextO_mid m t _ _ hl h10))).trans ?_
      iintro H; iexists d; iexact H
  · have hid : (cfgM m hO).idle 5 ((cfgM m hO).grid.coords t) = false := by
      rw [← Bool.not_eq_true, idle_iff]; exact fun h => hl h.1
    unfold Dat.leavesExact
    rw [hid, after5]
    unfold outAt
    rw [if_neg hl]
    refine (Entails.of_eq (congrArg (owns (c : Thread nD τ) (stg m hO 5 t) fullShare) (nextO_dead m t _ _ hl))).trans ?_
    exact .rfl

theorem Inv_next (hO : Ok m) (c : Dev nD) (t : Fin (cfgM m hO).N) (a : Vec F S512x2048 .bf16) (b : Vec F S512x2048 .f32) (hi : Inv m hO c t.val a b) :
    Inv m hO c (t.val + 1) (nextH (grid0.coords t) (cnt m) (blk m hO c 0 t) (blk m hO c 1 t) a)
      (nextA (grid0.coords t) (cnt m) (nextH (grid0.coords t) (cnt m) (blk m hO c 0 t) (blk m hO c 1 t) a) (blk m hO c 2 t) (blk m hO c 3 t) (blk m hO c 4 t) b) := by
  intro h0 hl h
  have hl' : live m (t.val / 11) := by rwa [show (t.val + 1) / 11 = t.val / 11 by omega] at hl
  have hs := step m hO c t a b hl' hi
  rw [hs.1, hs.2]
  exact ⟨rfl, rfl⟩

set_option maxHeartbeats 1600000 in
theorem sound_body (hO : Ok m) (c : Dev nD) (t : Fin (cfgM m hO).N) :
    bodyPre m hO c t ⊢ wp frame (wpE (defs₀ (F := F)) Variants.none c none) Set.univ (bodyAt m hO t) fun _ => bodyPost m hO c t := by
  unfold bodyPre bodyPost
  rw [Φ_start, Φ_end]
  unfold Φ
  simp only [before0, before1, before2, before3, before4]
  rw [leaves0, leaves1, leaves2, leaves3, leaves4]
  iintro ⟨⟨%a, %b, %hi, HS0, HS1, Hg, HT0, HT1⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (blk m hO c 0 t) (blk m hO c 1 t) (blk m hO c 2 t) (blk m hO c 3 t) (blk m hO c 4 t) _ a b (tbl m 0) (tbl m 1) (cond4_iff _ _) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · iexists _; iexists _; isplitr; swap
    · isplitl [HS0]; · iexact HS0
      isplitl [HS1]; · iexact HS1
      isplitl [Hg]; · iexact Hg
      isplitl [HT0]; · iexact HT0
      iexact HT1
    ipureintro; exact Inv_next m hO c t a b hi
  isplitl [Ho]; · iexact Ho
  isplitl [H0]; · iexact H0
  isplitl [H1]; · iexact H1
  isplitl [H2]; · iexact H2
  isplitl [H3]; · iexact H3
  isplitl [H4]; · iexact H4
  ihave H5' := (leaves_out m hO c t a b d5 hi) $$ H5
  iexact H5'

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation, its post one `leavesExact` per window. -/
theorem obligation_of {cfg : Pipeline.Cfg sig Λ₀} {c : Dev nD} (dat : Dat τ (Elt F) Unit ℕ (UR sig nD τ) ℕ cfg c)
    (h : ∀ t, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
        iprop(dat.Φ t.succ ∗ dat.owesAt () t.succ ∗ bigSep Finset.univ fun w : Fin cfg.W => dat.leavesExact w t)) :
    BodyObligation dat (defs₀ (F := F)) Variants.none () Set.univ := fun t => triple_restated (h t) rfl .rfl fun _ => .rfl

set_option maxHeartbeats 4000000 in
theorem body_obligation (hO : Ok m) (c : Dev nD) : BodyObligation (dats (F := F) m hO 0 c) (defs₀ (F := F)) Variants.none () Set.univ := obligation_of _ fun t => by
  rw [bigSep_W0, bigSep_W0, defs₀_row m hO]
  refine triple_restated (sound_body m hO c t) rfl ?_ fun _ => ?_
  · unfold bodyPre
    exact .rfl
  unfold bodyPost
  refine sep_mono .rfl (sep_mono .rfl (sep_mono .rfl (sep_mono .rfl (sep_mono .rfl (sep_mono .rfl (sep_mono .rfl ?_))))))
  exact .rfl

theorem hin (hO : Ok m) (c : Dev nD) : iprop(Pipeline.ΦA spec0 c ∗ Pipeline.ΦT pre0 (tbl m) c) ⊢ (dats m hO 0 c).Φ 0 := by
  rw [show (dats m hO 0 c).Φ 0 = Φ m hO c 0 from rfl, ΦA_eq, ΦT_eq]
  unfold Φ
  iintro ⟨⟨⟨⟨%a, HS0⟩, ⟨%b, HS1⟩⟩, Hg⟩, HT0, HT1⟩
  iexists a; iexists b; isplitr
  · ipureintro; exact fun h => absurd rfl h
  isplitl [HS0]; · iexact HS0
  isplitl [HS1]; · iexact HS1
  isplitl [Hg]; · iexact Hg
  isplitl [HT0]; · iexact HT0
  iexact HT1

theorem hout (hO : Ok m) (c : Dev nD) : (dats m hO 0 c).Φ (Fin.last (cfgM m hO).N) ⊢ Pipeline.ΦA spec0 c := by
  rw [show (dats m hO 0 c).Φ (Fin.last (cfgM m hO).N) = Φ m hO c (cfgM m hO).N from rfl, ΦA_eq]
  unfold Φ
  iintro ⟨%a, %b, -, HS0, HS1, Hg, -, -⟩
  isplitl [HS0 HS1]
  · isplitl [HS0]; · iexists a; iexact HS0
    iexists b; iexact HS1
  iexact Hg

set_option backward.isDefEq.respectTransparency.types false in
/-- The call's run: every array at what the proof data say, every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as they began, and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m hO 0 c).arrAt_in 0 rfl _).trans ((A_eq m hO c 0).trans (V_kept m c main_arg0 (by simp)))),
      ((h.1 c).2 main_arg1 (by decide : main_arg1 ∈ Pipeline.restRefs sig spec0)).trans (V_kept m c main_arg1 (by simp)),
      ((h.1 c).2 main_arg2 (by decide : main_arg2 ∈ Pipeline.restRefs sig spec0)).trans (V_kept m c main_arg2 (by simp)),
      ((h.1 c).2 main_arg3 (by decide : main_arg3 ∈ Pipeline.restRefs sig spec0)).trans (V_kept m c main_arg3 (by simp)),
      ((h.1 c).2 main_arg4 (by decide : main_arg4 ∈ Pipeline.restRefs sig spec0)).trans (V_kept m c main_arg4 (by simp)),
      ((h.1 c).2 main_arg5 (by decide : main_arg5 ∈ Pipeline.restRefs sig spec0)).trans (V_kept m c main_arg5 (by simp)),
      ((h.1 c).2 main_arg6 (by decide : main_arg6 ∈ Pipeline.restRefs sig spec0)).trans (V_kept m c main_arg6 (by simp))⟩, h.2⟩) (run_main m ρ hO)

end Cert.Kernel2Ideal.Experts

end
-- ==== Proof.FfnTables.lean ====
/- The experts' call: the tables its precondition admits, and the blocks they name. -/
module

public import proofs.«01_k».proof.Proof.FfnFrame
public import proofs.«01_k».proof.Proof.Gen.Pre_experts
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Kernel2Ideal.Experts

open Cert.Kernel2Ideal Cert.Kernel2Ideal.Gen

variable {F : FTy → Type} [FloatOps F]

/-- The precondition, word by word. -/
theorem range_of (x0 : FVec F S36864x2048 .f32) (x1 : FVec F S2048 .f32) (x2 x3 : FVec F S16x2048x5632 .f32) (x4 : FVec F S16x5632x2048 .f32) (te : IVec S72 32) (tn : IVec S1 32)
    (h : Cert.Pre_experts.fn (F := F) x0 x1 x2 x3 x4 te tn = fun _ => 1#1) (x : S72.Idx) : (te x).toNat < 16 := by
  have hx := congrFun h x
  unfold Cert.Pre_experts.fn at hx
  have e : IntOp.andi (IntOp.cmpi .sge (te x) 0#32) (IntOp.cmpi .slt (te x) (BitVec.ofNat 32 16)) = 1#1 := hx
  rw [WordCmp.andi_sge_zero_slt_ofNat (by decide), WordCmp.ofBool_decide_eq_one_iff] at e
  exact e

variable (m : (ℓ : Loc nD τ sig) → Buf (Elt F) ℓ)

/-- The word of a tile. -/
def word (i : Fin 72) : BitVec 32 := m ((0 : Dev nD), Proc.tc.devRef main_arg5) (ix1 i)

theorem tbl0 (i : Fin 72) : tbl m 0 (ix1 i) = word m i := congrFun (V_kept m 0 main_arg5 (by simp)) (ix1 i)

theorem at_eq (i : grid0.Coords) :
    (tbl m).at 0 (Rect.unit (s := S72) ![(Scalar.indexCast (BitVec.ofNat 32 (i 0).val)).toNat] S1.size (k0_off1_inb i)) numel1_S1 = word m (i 0) := by
  refine Eq.trans ?_ (tbl0 m (i 0))
  have hi : (i 0).val < 72 := (i 0).isLt
  refine congrArg (tbl m 0) (funext fun a => Fin.ext ?_)
  match a with
  | ⟨0, _⟩ =>
    show (BitVec.ofNat 32 (i 0).val).toNat + 0 * 1 = (i 0).val
    rw [WordCmp.toNat_ofNat_of_lt (by omega)]
    omega

theorem map2 (i : grid0.Coords) : cc0_transform_2 k0_off1_inb numel1_S1 (tbl m) i = ![(word m (i 0)).toNat, 0, (i 1).val] := by
  unfold cc0_transform_2
  dsimp only
  rw [at_eq]
  have hi : (i 1).val < 11 := (i 1).isLt
  rw [WordCmp.toNat_ofNat_of_lt (a := (i 1).val) (by omega)]
  rfl
theorem map3 (i : grid0.Coords) : cc0_transform_3 k0_off1_inb numel1_S1 (tbl m) i = ![(word m (i 0)).toNat, 0, (i 1).val] := map2 m i
theorem map4 (i : grid0.Coords) : cc0_transform_4 k0_off1_inb numel1_S1 (tbl m) i = ![(word m (i 0)).toNat, (i 1).val, 0] := by
  unfold cc0_transform_4
  dsimp only
  rw [at_eq]
  have hi : (i 1).val < 11 := (i 1).isLt
  rw [WordCmp.toNat_ofNat_of_lt (a := (i 1).val) (by omega)]
  rfl

theorem inside (w j : ℕ) (hw : w < 16) (hj : j < 11) : ∀ a, ((![w, 0, j] : Fin 3 → ℕ) a + 1) * S1x2048x512.size a ≤ S16x2048x5632.size a := by
  intro a
  fin_cases a
  · show (w + 1) * 1 ≤ 16; omega
  · show (0 + 1) * 2048 ≤ 2048; omega
  · show (j + 1) * 512 ≤ 5632; omega
theorem inside' (w j : ℕ) (hw : w < 16) (hj : j < 11) : ∀ a, ((![w, j, 0] : Fin 3 → ℕ) a + 1) * S1x512x2048.size a ≤ S16x5632x2048.size a := by
  intro a
  fin_cases a
  · show (w + 1) * 1 ≤ 16; omega
  · show (j + 1) * 512 ≤ 5632; omega
  · show (0 + 1) * 2048 ≤ 2048; omega

/-- Tables in range name blocks inside the weights. -/
theorem ok (h : ∀ i, (word m i).toNat < 16) : Ok m :=
  ⟨fun i => ⟨fun a => by rw [map2]; exact inside _ _ (h _) (i 1).isLt a, .inr (Affine.block_words_dvd (of_decide_eq_true rfl) (by decide))⟩,
    fun i => ⟨fun a => by rw [map3]; exact inside _ _ (h _) (i 1).isLt a, .inr (Affine.block_words_dvd (of_decide_eq_true rfl) (by decide))⟩,
    fun i => ⟨fun a => by rw [map4]; exact inside' _ _ (h _) (i 1).isLt a, .inr (Affine.block_words_dvd (of_decide_eq_true rfl) (by decide))⟩⟩

end Cert.Kernel2Ideal.Experts

end
-- ==== Proof.FfnMath.lean ====
/- The experts' mathematics, which the kernel and the reference both come to. -/
module

public import Idealize.ShloMosaic.Lib.Pointwise
public import Idealize.ShloMosaic.Lib.IdealHost
public import Idealize.ShloMosaic.Lib.WordCmp

@[expose] public section

noncomputable section

open Idealize.ShloMosaic

namespace Cert.Experts

/-- An entry of a row after its norm and gain. -/
def hid (x g : Fin 2048 → EReal) (d : Fin 2048) : EReal :=
  x d * Ideal.rsqrt (Ideal.div (∑ k, x k * x k) (Ideal.ofBits .f32 0x45000000#32) + Ideal.ofBits .f32 0x358637BD#32) * g d

/-- An entry of the gated hidden layer. -/
def act {n : ℕ} (h : Fin 2048 → EReal) (wg wu : Fin 2048 → Fin n → EReal) (f : Fin n) : EReal :=
  (∑ d, h d * wg d f) * Ideal.logistic (∑ d, h d * wg d f) * ∑ d, h d * wu d f

/-- One expert's answer to a row. -/
def answer (h : Fin 2048 → EReal) (wg wu : Fin 2048 → Fin 5632 → EReal) (wd : Fin 5632 → Fin 2048 → EReal) (d : Fin 2048) : EReal :=
  ∑ f, act h wg wu f * wd f d

/-- The first `n` of 5632 terms. -/
def upTo (F : Fin 5632 → EReal) (n : ℕ) : EReal := ∑ f ∈ Finset.range n, if h : f < 5632 then F ⟨f, h⟩ else 0

theorem upTo_zero (F : Fin 5632 → EReal) : upTo F 0 = 0 := rfl

theorem upTo_all (F : Fin 5632 → EReal) : upTo F 5632 = ∑ f, F f := by
  unfold upTo
  rw [Finset.sum_range]
  exact Finset.sum_congr rfl fun f _ => dif_pos f.isLt

theorem upTo_add (F : Fin 5632 → EReal) (j : ℕ) (hj : j < 11) (G : Fin 512 → EReal) (hG : ∀ k : Fin 512, G k = F ⟨512 * j + k.val, by omega⟩) :
    upTo F (512 * j) + ∑ k, G k = upTo F (512 * (j + 1)) := by
  unfold upTo
  rw [show 512 * (j + 1) = 512 * j + 512 by omega, Finset.sum_range_add, Finset.sum_range (n := 512)]
  congr 1
  refine Finset.sum_congr rfl fun k _ => ?_
  rw [dif_pos (by omega), hG]

/-- A sum that a one picks one term of. -/
theorem pick (y : Fin 16 → EReal) (w : Fin 16 → EReal) (e : Fin 16) (h1 : w e = 1) (h0 : ∀ x, x ≠ e → w x = 0) : ∑ x, w x * y x = y e := by
  rw [Finset.sum_eq_single e (fun x _ hx => by rw [h0 x hx, zero_mul]) (fun h => absurd (Finset.mem_univ e) h), h1, one_mul]

/-- The tile a row is in. -/
def tile (r : Fin 36864) : Fin 72 := ⟨r.val / 512, by omega⟩

/-- The expert a word names. -/
def expert (w : BitVec 32) : Fin 16 := ⟨w.toNat % 16, by omega⟩

/-- The call's result: a row's expert's answer, or nothing past the tiles in use. -/
def result (x : Fin 36864 → Fin 2048 → EReal) (g : Fin 2048 → EReal) (wg wu : Fin 16 → Fin 2048 → Fin 5632 → EReal) (wd : Fin 16 → Fin 5632 → Fin 2048 → EReal)
    (te : Fin 72 → BitVec 32) (tn : BitVec 32) (r : Fin 36864) (d : Fin 2048) : EReal :=
  if (BitVec.ofNat 32 (tile r).val).slt tn = true then answer (hid (x r) g) (wg (expert (te (tile r)))) (wu (expert (te (tile r)))) (wd (expert (te (tile r)))) d else 0

end Cert.Experts

end
-- ==== Proof.FfnVal.lean ====
/- The experts' call: what a point computes, entry by entry. -/
module

public import proofs.«01_k».proof.Proof.FfnTables
public import proofs.«01_k».proof.Proof.FfnMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem StableHlo

namespace Cert.Kernel2Ideal.Experts

open Cert.Kernel2Ideal Cert.Kernel2Ideal.Gen Cert.Experts

theorem pay1_val (x : Vec Ideal S512x2048 .f32) (g : Vec Ideal S1x2048 .f32) (r : Fin 512) (d : Fin 2048) :
    k0_pay1 x g (ix2 r d) = hid (fun k => x (ix2 r k)) (fun k => g (ix2 0 k)) d := by
  pointwise [k0_pay1]
  rfl

theorem pay2_val (r : Fin 512) (d : Fin 2048) : k0_pay2 (F := Ideal) (ix2 r d) = 0 := by
  pointwise [k0_pay2]

theorem pay3_val (h : Vec Ideal S512x2048 .bf16) (wg wu : Vec Ideal S1x2048x512 .bf16) (a : Vec Ideal S512x2048 .f32) (wd : Vec Ideal S1x512x2048 .bf16) (r : Fin 512) (d : Fin 2048) :
    k0_pay3 h wg wu a wd (ix2 r d)
      = a (ix2 r d) + ∑ f : Fin 512, act (fun k => h (ix2 r k)) (fun k f => wg (ix3 0 k f)) (fun k f => wu (ix3 0 k f)) f * wd (ix3 0 f d) := by
  pointwise [k0_pay3]
  rfl

theorem pay4_val (r : Fin 512) (d : Fin 2048) : k0_pay4 (F := Ideal) (ix2 r d) = 0 := by
  pointwise [k0_pay4]

variable (m : (ℓ : Loc nD τ sig) → Buf (Elt Ideal) ℓ)

/-! ## The arrays the windows read -/

theorem host_wg (c : Dev nD) (e : Fin 16) (k : Fin 2048) (f : Fin 5632) : V m c main_v0 (ix3 e k f) = m (c, Proc.tc.devRef main_arg2) (ix3 e k f) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_wu (c : Dev nD) (e : Fin 16) (k : Fin 2048) (f : Fin 5632) : V m c main_v1 (ix3 e k f) = m (c, Proc.tc.devRef main_arg3) (ix3 e k f) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_wd (c : Dev nD) (e : Fin 16) (f : Fin 5632) (k : Fin 2048) : V m c main_v2 (ix3 e f k) = m (c, Proc.tc.devRef main_arg4) (ix3 e f k) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_g (c : Dev nD) (k : Fin 2048) : V m c main_v3 (ix2 0 k) = m (c, Proc.tc.devRef main_arg1) (ix1 k) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise

variable (hO : Ok m) (c : Dev nD) (t : Fin (cfgM m hO).N)

theorem lt_N : t.val < 792 := Nat.lt_of_lt_of_eq t.isLt N_0

/-- A point's tile. -/
def tl : Fin 72 := ⟨t.val / 11, by have := lt_N m hO t; omega⟩
/-- A row of a tile, in the whole. -/
def row (i : Fin 72) (r : Fin 512) : Fin 36864 := ⟨512 * i.val + r.val, by omega⟩
/-- A column of a point's block of the hidden axis, in the whole. -/
def col (f : Fin 512) : Fin 5632 := ⟨512 * (t.val % 11) + f.val, by omega⟩

theorem coords_eq0 : grid0.coords t 0 = tl m hO t := Fin.ext (coord0 t)

theorem idx0 : ((cfgM m hO).win 0).index t = ![t.val / 11, 0] := by
  have ht := lt_N m hO t
  show ![(BitVec.ofNat 32 (grid0.coords t 0).val).toNat, 0] = _
  rw [coord0, WordCmp.toNat_ofNat_of_lt (by omega)]
theorem idx1 : ((cfgM m hO).win 1).index t = ![0, 0] := rfl
theorem idx2 : ((cfgM m hO).win 2).index t = ![(word m (tl m hO t)).toNat, 0, t.val % 11] := by
  refine (map2 m (grid0.coords t)).trans ?_
  rw [coords_eq0 m hO t, coord1]
theorem idx3 : ((cfgM m hO).win 3).index t = ![(word m (tl m hO t)).toNat, 0, t.val % 11] := idx2 m hO t
theorem idx4 : ((cfgM m hO).win 4).index t = ![(word m (tl m hO t)).toNat, t.val % 11, 0] := by
  refine (map4 m (grid0.coords t)).trans ?_
  rw [coords_eq0 m hO t, coord1]
theorem idx5 : ((cfgM m hO).win 5).index t = ![t.val / 11, 0] := idx0 m hO t

variable (hw : ∀ i, (word m i).toNat < 16)

include hw in
theorem expert_val (i : Fin 72) : (expert (word m i)).val = (word m i).toNat := Nat.mod_eq_of_lt (hw i)

theorem read0 (r : Fin 512) (k : Fin 2048) : blk m hO c 0 t (ix2 r k) = V m c main_arg0 (ix2 (row (tl m hO t) r) k) := by
  unfold row tl
  blk_ext [blk, idx0 m hO t]
theorem read1 (k : Fin 2048) : blk m hO c 1 t (ix2 0 k) = V m c main_v3 (ix2 0 k) := by
  blk_ext [blk, idx1 m hO t]
include hw in
theorem read2 (k : Fin 2048) (f : Fin 512) : blk m hO c 2 t (ix3 0 k f) = V m c main_v0 (ix3 (expert (word m (tl m hO t))) k (col m hO t f)) := by
  have he := expert_val m hw (tl m hO t)
  unfold col
  blk_ext [blk, idx2 m hO t]

include hw in
theorem read3 (k : Fin 2048) (f : Fin 512) : blk m hO c 3 t (ix3 0 k f) = V m c main_v1 (ix3 (expert (word m (tl m hO t))) k (col m hO t f)) := by
  have he := expert_val m hw (tl m hO t)
  unfold col
  blk_ext [blk, idx3 m hO t]
include hw in
theorem read4 (f : Fin 512) (k : Fin 2048) : blk m hO c 4 t (ix3 0 f k) = V m c main_v2 (ix3 (expert (word m (tl m hO t))) (col m hO t f) k) := by
  have he := expert_val m hw (tl m hO t)
  unfold col
  blk_ext [blk, idx4 m hO t]

/-! ## A tile's sum -/

/-- A tile's row after its norm and gain. -/
def hrow (i : Fin 72) (r : Fin 512) : Fin 2048 → EReal :=
  hid (fun k => m (c, Proc.tc.devRef main_arg0) (ix2 (row i r) k)) (fun k => m (c, Proc.tc.devRef main_arg1) (ix1 k))

/-- One hidden column's share of a tile's answer. -/
def term (i : Fin 72) (r : Fin 512) (d : Fin 2048) (f : Fin 5632) : EReal :=
  act (hrow m c i r) (fun k f => m (c, Proc.tc.devRef main_arg2) (ix3 (expert (word m i)) k f)) (fun k f => m (c, Proc.tc.devRef main_arg3) (ix3 (expert (word m i)) k f)) f
    * m (c, Proc.tc.devRef main_arg4) (ix3 (expert (word m i)) f d)

theorem hAt_val (r : Fin 512) (k : Fin 2048) : hAt m hO c t (ix2 r k) = hrow m c (tl m hO t) r k := by
  unfold hAt
  refine (pay1_val _ _ r k).trans ?_
  have hf : tl m hO (fst t) = tl m hO t := Fin.ext (by unfold tl fst; dsimp only; omega)
  have e1 : ∀ k, blk m hO c 1 (fst t) (ix2 0 k) = m (c, Proc.tc.devRef main_arg1) (ix1 k) := fun k => (read1 m hO c (fst t) k).trans (host_g m c k)
  simp only [read0, e1, hf, V_kept m c main_arg0 (.inl rfl)]
  rfl

include hw in
theorem step_val (a : Vec Ideal S512x2048 .f32) (r : Fin 512) (d : Fin 2048) :
    k0_pay3 (hAt m hO c t) (blk m hO c 2 t) (blk m hO c 3 t) a (blk m hO c 4 t) (ix2 r d)
      = a (ix2 r d) + ∑ f : Fin 512, term m c (tl m hO t) r d (col m hO t f) := by
  refine (pay3_val _ _ _ a _ r d).trans ?_
  simp only [hAt_val, read2 m hO c t hw, read3 m hO c t hw, read4 m hO c t hw, host_wg, host_wu, host_wd]
  rfl

include hw in
theorem accAt_val (n : ℕ) (h : n < (cfgM m hO).N) (r : Fin 512) (d : Fin 2048) :
    accAt m hO c n h (ix2 r d) = upTo (term m c (tl m hO ⟨n, h⟩) r d) (512 * (n % 11 + 1)) := by
  induction n with
  | zero =>
    rw [accAt, step_val m hO c _ hw, pay2_val]
    exact upTo_add _ 0 (by omega) _ fun k => rfl
  | succ n ih =>
    rw [accAt, step_val m hO c _ hw]
    by_cases h0 : (n + 1) % 11 = 0
    · rw [if_pos h0, pay2_val]
      have := upTo_add (term m c (tl m hO ⟨n + 1, h⟩) r d) ((n + 1) % 11) (by omega) (fun f => term m c (tl m hO ⟨n + 1, h⟩) r d (col m hO ⟨n + 1, h⟩ f)) fun k => rfl
      rw [← this, h0]
      rfl
    · rw [if_neg h0, ih]
      have e : tl m hO ⟨n, Nat.lt_of_succ_lt h⟩ = tl m hO ⟨n + 1, h⟩ := Fin.ext (by unfold tl; dsimp only; omega)
      rw [e, show n % 11 + 1 = (n + 1) % 11 by omega]
      exact upTo_add _ ((n + 1) % 11) (by omega) _ fun k => rfl

/-! ## The array -/

/-- The result array. -/
def G : Vec Ideal S36864x2048 .f32 := fun ix =>
  result (fun r k => m (c, Proc.tc.devRef main_arg0) (ix2 r k)) (fun k => m (c, Proc.tc.devRef main_arg1) (ix1 k))
    (fun e k f => m (c, Proc.tc.devRef main_arg2) (ix3 e k f)) (fun e k f => m (c, Proc.tc.devRef main_arg3) (ix3 e k f)) (fun e f k => m (c, Proc.tc.devRef main_arg4) (ix3 e f k))
    (word m) (m (c, Proc.tc.devRef main_arg6) (ix1 0)) (ix 0) (ix 1)

theorem cnt_eq : cnt m = m (c, Proc.tc.devRef main_arg6) (ix1 0) := by
  obtain rfl : c = 0 := Subsingleton.elim _ _
  refine Eq.trans ?_ (congrFun (V_kept m 0 main_arg6 (by simp)) (ix1 0))
  unfold cnt
  show tbl m 1 _ = tbl m 1 _
  exact congrArg (tbl m 1) (funext fun a => by match a with | ⟨0, _⟩ => rfl)

theorem covers : ((cfgM m hO).win 5).Covers := by
  refine ⟨fun a => by fin_cases a <;> exact Nat.succ_pos _, fun β => ?_⟩
  have n0 : ((cfgM m hO).win 5).nblk (0 : Fin 2) = 72 := by show (36864 + 512 - 1) / 512 = 72; rfl
  have n1 : ((cfgM m hO).win 5).nblk (1 : Fin 2) = 1 := by show (2048 + 2048 - 1) / 2048 = 1; rfl
  obtain ⟨a, ha⟩ : ∃ a : Fin 72, a.val = β (0 : Fin 2) := ⟨(β (0 : Fin 2)).cast n0, rfl⟩
  obtain ⟨b, hb⟩ : ∃ b : Fin 1, b.val = β (1 : Fin 2) := ⟨(β (1 : Fin 2)).cast n1, rfl⟩
  refine ⟨⟨11 * a.val + 10, Nat.lt_of_lt_of_eq (by omega : _ < 792) N_0.symm⟩, (flush_iff m hO _).mpr (by dsimp only; omega), fun x => ⟨?_, .inl ?_⟩⟩
  · rw [idx5]
    change Fin 2 at x
    match x with
    | 0 =>
      rw [← ha]
      show (11 * a.val + 10) / 11 = a.val
      omega
    | 1 =>
      rw [← hb]
      show 0 = b.val
      omega
  · rfl

include hw in
theorem out_val (ht : t.val % 11 = 10) (r : Fin 512) (d : Fin 2048) : outAt m hO c t (ix2 r d) = G m c (ix2 (row (tl m hO t) r) d) := by
  have hi : tile (row (tl m hO t) r) = tl m hO t := Fin.ext (by show (512 * (tl m hO t).val + r.val) / 512 = _; omega)
  show _ = result _ _ _ _ _ _ _ (row (tl m hO t) r) d
  unfold outAt result
  rw [hi, ← cnt_eq m c]
  by_cases h : live m (t.val / 11)
  · rw [if_pos h, accAt_val m hO c hw, ht]
    exact (upTo_all _).trans (if_pos h).symm
  · rw [if_neg h]
    exact (pay4_val r d).trans (if_neg h).symm

include hw in
theorem array : (dats m hO 0 c).arrAt 5 (Fin.last (cfgM m hO).N) = G m c := by
  refine (dats m hO 0 c).arrAt_eq_of_covers 5 _ (covers m hO) fun t hf y => ?_
  blk_simp
  rw [after5]
  change S512x2048.Idx at y
  obtain ⟨r, d, rfl⟩ : ∃ r d, y = ix2 r d := ⟨y 0, y 1, eq_ix2 y⟩
  refine (out_val m hO c t hw ((flush_iff m hO t).mp hf) r d).trans ?_
  have he : (((cfgM m hO).win 5).blk t).view.emb (ix2 r d : S512x2048.Idx) = (ix2 (row (tl m hO t) r) d : S36864x2048.Idx) := by
    unfold row tl
    blk_ext [idx5 m hO t]
  exact (congrArg (G m c) he).symm

end Cert.Kernel2Ideal.Experts

end
-- ==== Proof.FfnRef.lean ====
/- The experts' reference, entry by entry. -/
module

public import proofs.«01_k».proof.Proof.Gen.Reference2Ideal.Run
public import proofs.«01_k».proof.Proof.FfnMath

@[expose] public section

set_option maxRecDepth 16384

noncomputable section

open Idealize.ShloMosaic Idealize.ShloMosaic.TcCoe Idealize.SL.Sem

namespace Cert.Reference2Ideal.Experts

open Cert.Reference2Ideal Cert.Reference2Ideal.Gen Cert.Reference2Ideal.Value Cert.Experts

section
variable {F : FTy → Type} [FloatOps F]

/-- The rows after their norm and gain. -/
def hidden (x : Vec F S36864x2048 .f32) (g : Vec F S2048 .f32) : FVec F S36864x2048 .f32 := mulf (mulf x (broadcastInDim S36864x2048 ![0, 1] bcast_S36864x1_S36864x2048_0_1 (Host.rsqrt (addf (Host.divf (broadcastInDim S36864x1 ![0] bcast_S36864_S36864x1_0 (Host.reduceAdd (mulf x x) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))

/-- The rows under every expert's first or second projection. -/
def proj (w : Vec F S16x2048x5632 .f32) (h : FVec F S36864x2048 .f32) : FVec F S16x36864x5632 .f32 := transpose S16x36864x5632 [0, 2, 1] (Host.dotGeneral dot_S16x2048x5632_S36864x2048_S16x5632x36864_1_1_02_0_n_n none w h) transposes_S16x5632x36864_S16x36864x5632_0_2_1

/-- Every expert's answers. -/
def answers (a u : FVec F S16x36864x5632 .f32) (w : Vec F S16x5632x2048 .f32) : FVec F S16x36864x2048 .f32 := Host.dotGeneral dot_S16x36864x5632_S16x5632x2048_S16x36864x2048_2_1_1_2_0_0 none (mulf (mulf a (Host.divf (broadcastInDim S16x36864x5632 ![] bcast_S_S16x36864x5632 (constant S_ .f32 0x3F800000#32)) (addf (broadcastInDim S16x36864x5632 ![] bcast_S_S16x36864x5632 (constant S_ .f32 0x3F800000#32)) (Host.exp (Host.negf a))))) u) w

/-- Which expert answers which row. -/
def chosen (te : IVec S72 32) (tn : IVec S1 32) : IVec S36864x16 1 := andi (cmpi .eq (broadcastInDim S36864x16 ![0, 1] bcast_S36864x1_S36864x16_0_1 (broadcastInDim S36864x1 ![0] bcast_S36864_S36864x1_0 (shapeCast _ (broadcastInDim S72x512 ![0] bcast_S72_S72x512_0 te) shapeCasts_S72x512_S36864))) (broadcastInDim S36864x16 ![0, 1] bcast_S1x16_S36864x16_0_1 (broadcastInDim S1x16 ![1] bcast_S16_S1x16_1 (iotaInDim S16 32 0)))) (broadcastInDim S36864x16 ![0, 1] bcast_S36864x1_S36864x16_0_1 (broadcastInDim S36864x1 ![0] bcast_S36864_S36864x1_0 (shapeCast _ (broadcastInDim S72x512 ![0] bcast_S72_S72x512_0 (cmpi .slt (iotaInDim S72 32 0) (broadcastInDim S72 ![] bcast_S_S72 (shapeCast _ tn shapeCasts_S1_S_)))) shapeCasts_S72x512_S36864)))

/-- The reference's result. -/
def mixed (ch : IVec S36864x16 1) (y : FVec F S16x36864x2048 .f32) : FVec F S36864x2048 .f32 := Host.dotGeneral dot_S36864x16_S16x36864x2048_S36864x2048_1_0_n_2_0_1 none (uitofp .f32 ch) y

end

theorem hidden_val (x : Vec Ideal S36864x2048 .f32) (g : Vec Ideal S2048 .f32) (r : Fin 36864) (d : Fin 2048) :
    hidden x g (ix2 r d) = hid (fun k => x (ix2 r k)) (fun k => g (ix1 k)) d := by
  pointwise [hidden]
  rfl

theorem proj_val (w : Vec Ideal S16x2048x5632 .f32) (h : FVec Ideal S36864x2048 .f32) (e : Fin 16) (r : Fin 36864) (f : Fin 5632) :
    proj w h (ix3 e r f) = ∑ k : Fin 2048, w (ix3 e k f) * h (ix2 r k) := by
  pointwise [proj]

theorem answers_val (a u : FVec Ideal S16x36864x5632 .f32) (w : Vec Ideal S16x5632x2048 .f32) (e : Fin 16) (r : Fin 36864) (d : Fin 2048) :
    answers a u w (ix3 e r d) = ∑ f : Fin 5632, a (ix3 e r f) * Ideal.logistic (a (ix3 e r f)) * u (ix3 e r f) * w (ix3 e f d) := by
  pointwise [answers]
  rfl

theorem chosen_val (te : IVec S72 32) (tn : IVec S1 32) (r : Fin 36864) (e : Fin 16) :
    chosen te tn (ix2 r e) = IntOp.andi (IntOp.cmpi CmpIPredicate.eq (te (ix1 ⟨r.val / 512, by omega⟩)) (BitVec.ofNat 32 e.val))
      (IntOp.cmpi CmpIPredicate.slt (BitVec.ofNat 32 (r.val / 512)) (tn (ix1 0))) := by
  pointwise [chosen]

theorem mixed_val (ch : IVec S36864x16 1) (y : FVec Ideal S16x36864x2048 .f32) (r : Fin 36864) (d : Fin 2048) :
    mixed ch y (ix2 r d) = ∑ e : Fin 16, FloatOps.uitofp (F := Ideal) .f32 (ch (ix2 r e)) * y (ix3 e r d) := by
  pointwise [mixed]

/-- A choice in use picks its expert. -/
theorem chosen_live (w : BitVec 32) (hw : w.toNat < 16) (b : BitVec 1) (hb : b = 1#1) (e : Fin 16) :
    (FloatOps.uitofp (F := Ideal) .f32 (IntOp.andi (IntOp.cmpi CmpIPredicate.eq w (BitVec.ofNat 32 e.val)) b) : EReal) = if e = expert w then 1 else 0 := by
  subst hb
  have hc : IntOp.cmpi CmpIPredicate.eq w (BitVec.ofNat 32 e.val) = BitVec.ofBool (decide (e = expert w)) := by
    rw [WordCmp.cmpi_eq_eq]
    refine congrArg BitVec.ofBool (decide_eq_decide.mpr ?_)
    rw [← BitVec.toNat_inj, WordCmp.toNat_ofNat_of_lt (by omega), Fin.ext_iff]
    show _ ↔ e.val = w.toNat % 16
    omega
  rw [hc]
  split_ifs with h
  · rw [decide_eq_true h]; exact (congrArg _ Nat.cast_one).trans EReal.coe_one
  · rw [decide_eq_false h]; exact (congrArg _ Nat.cast_zero).trans EReal.coe_zero

/-- A choice past the tiles in use picks none. -/
theorem chosen_dead (w : BitVec 32) (b : BitVec 1) (hb : b = 0#1) (e : Fin 16) :
    (FloatOps.uitofp (F := Ideal) .f32 (IntOp.andi (IntOp.cmpi CmpIPredicate.eq w (BitVec.ofNat 32 e.val)) b) : EReal) = 0 := by
  subst hb
  rw [show IntOp.andi (IntOp.cmpi CmpIPredicate.eq w (BitVec.ofNat 32 e.val)) 0#1 = 0#1 from BitVec.and_zero]
  exact (congrArg _ Nat.cast_zero).trans EReal.coe_zero

/-- The reference's result at a row and a column. -/
theorem whole_val (x : Vec Ideal S36864x2048 .f32) (g : Vec Ideal S2048 .f32) (wg wu : Vec Ideal S16x2048x5632 .f32) (wd : Vec Ideal S16x5632x2048 .f32)
    (te : IVec S72 32) (tn : IVec S1 32) (hte : ∀ i, (te i).toNat < 16) (r : Fin 36864) (d : Fin 2048) :
    mixed (chosen te tn) (answers (proj wg (hidden x g)) (proj wu (hidden x g)) wd) (ix2 r d)
      = result (fun r k => x (ix2 r k)) (fun k => g (ix1 k)) (fun e k f => wg (ix3 e k f)) (fun e k f => wu (ix3 e k f)) (fun e f k => wd (ix3 e f k))
          (fun t => te (ix1 t)) (tn (ix1 0)) r d := by
  have hp : ∀ (w : Vec Ideal S16x2048x5632 .f32) (e : Fin 16) (f : Fin 5632),
      proj w (hidden x g) (ix3 e r f) = ∑ k : Fin 2048, hid (fun k => x (ix2 r k)) (fun k => g (ix1 k)) k * w (ix3 e k f) := fun w e f => by
    rw [proj_val]
    exact Finset.sum_congr rfl fun k _ => by rw [hidden_val]; exact mul_comm _ _
  rw [mixed_val]
  unfold result
  split_ifs with h
  · rw [pick _ _ (expert (te (ix1 (tile r)))) _ _, answers_val]
    · refine Finset.sum_congr rfl fun f _ => ?_
      rw [hp, hp]
      rfl
    · rw [chosen_val]
      exact (chosen_live _ (hte _) _ (congrArg BitVec.ofBool h) _).trans (if_pos rfl)
    · intro e he
      rw [chosen_val]
      exact (chosen_live _ (hte _) _ (congrArg BitVec.ofBool h) _).trans (if_neg he)
  · refine Finset.sum_eq_zero fun e _ => ?_
    rw [chosen_val]
    refine (congrArg (· * _) (chosen_dead _ _ (congrArg BitVec.ofBool (Bool.not_eq_true _ |>.mp h)) e)).trans (zero_mul _)

end Cert.Reference2Ideal.Experts

end
-- ==== Proof.FfnClaims.lean ====
/- The experts' claims, from the two programs' runs. -/
module

public import proofs.«01_k».proof.Defs
public import proofs.«01_k».proof.Proof.Gen.Kernel2
public import proofs.«01_k».proof.Proof.FfnVal
public import proofs.«01_k».proof.Proof.FfnRef

@[expose] public section

set_option maxRecDepth 16384

noncomputable section

open Idealize.ShloMosaic Idealize.ShloMosaic.TcCoe Idealize.SL.Sem

namespace Cert.Proof

open Cert.Kernel2Ideal.Experts

/-! ## The frames -/

/-- The two programs have one body table. -/
theorem bodies : @Cert.Kernel2.defs₀ Bits _ _ = @Cert.Kernel2Ideal.defs₀ Bits _ _ := by
  unfold Cert.Kernel2.defs₀ Cert.Kernel2Ideal.defs₀
  refine congrArg Defs.onTc ?_
  funext l x
  match l with
  | 0 => rfl
theorem tables : @Cert.Kernel2.defs Bits _ _ = @Cert.Kernel2Ideal.defs Bits _ _ := by
  unfold Cert.Kernel2.defs Cert.Kernel2Ideal.defs
  rw [bodies]
  rfl
theorem mains : @Cert.Kernel2.main Bits _ _ = @Cert.Kernel2Ideal.main Bits _ _ := rfl

theorem frame_p2 : Cert.quiescent_Kernel2 := fun m ρ hm => by
  rw [tables, mains]
  exact (θ_run Cert.Kernel2Ideal.defs _ _).mono (fun _ h => h)
    (Cert.Kernel2Ideal.Experts.frame (F := Bits) m ρ (ok m fun _ => range_of _ _ _ _ _ _ _ (hm 0) _))
theorem frame_pi2 : Cert.quiescent_Kernel2Ideal := fun m ρ hm =>
  Cert.Kernel2Ideal.Experts.frame (F := Ideal) m ρ (ok m fun _ => range_of _ _ _ _ _ _ _ (hm 0) _)
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_ri2_pre : Cert.quiescent_Reference2Ideal_pre_experts := fun m ρ _ => frame_ri2 m ρ trivial

/-! ## The values -/

/-- The reference's stages, from the kernel's arguments. -/
theorem stages (m : (ℓ : Loc Cert.Kernel2Ideal.nD Cert.Kernel2Ideal.τ Cert.Kernel2Ideal.sig) → Buf (Elt Ideal) ℓ) (c : Dev Cert.Kernel2Ideal.nD) (hw : ∀ i, (word m i).toNat < 16)
    (x : Vec Ideal Cert.Reference2Ideal.S36864x2048 .f32) (g : Vec Ideal Cert.Reference2Ideal.S2048 .f32) (wg wu : Vec Ideal Cert.Reference2Ideal.S16x2048x5632 .f32) (wd : Vec Ideal Cert.Reference2Ideal.S16x5632x2048 .f32)
    (te : IVec Cert.Reference2Ideal.S72 32) (tn : IVec Cert.Reference2Ideal.S1 32)
    (e0 : x = m (c, Proc.tc.devRef Cert.Kernel2Ideal.main_arg0)) (e1 : g = m (c, Proc.tc.devRef Cert.Kernel2Ideal.main_arg1)) (e2 : wg = m (c, Proc.tc.devRef Cert.Kernel2Ideal.main_arg2)) (e3 : wu = m (c, Proc.tc.devRef Cert.Kernel2Ideal.main_arg3))
    (e4 : wd = m (c, Proc.tc.devRef Cert.Kernel2Ideal.main_arg4)) (e5 : te = m (c, Proc.tc.devRef Cert.Kernel2Ideal.main_arg5)) (e6 : tn = m (c, Proc.tc.devRef Cert.Kernel2Ideal.main_arg6)) :
    Cert.Reference2Ideal.Experts.mixed (Cert.Reference2Ideal.Experts.chosen te tn)
      (Cert.Reference2Ideal.Experts.answers (Cert.Reference2Ideal.Experts.proj wg (Cert.Reference2Ideal.Experts.hidden x g)) (Cert.Reference2Ideal.Experts.proj wu (Cert.Reference2Ideal.Experts.hidden x g)) wd)
      = G m c := by
  obtain rfl : c = 0 := Subsingleton.elim _ _
  subst e0 e1 e2 e3 e4 e5 e6
  funext ix
  rw [eq_ix2 ix]
  exact Cert.Reference2Ideal.Experts.whole_val _ _ _ _ _ _ _ (fun i => by rw [eq_ix1 i]; exact hw (i 0)) _ _

set_option maxHeartbeats 800000 in
theorem algebraic2 : Cert.algebraic_Kernel2Ideal_Reference2Ideal := fun m g m' g' hm he =>
  have hw : ∀ i, (word m i).toNat < 16 := fun _ => range_of _ _ _ _ _ _ _ (hm 0) _
  ⟨fun c => G m c,
    θ_run_mono (θ_run_and (run_main (F := Ideal) m g (ok m hw)) (Cert.Kernel2Ideal.Experts.frame (F := Ideal) m g (ok m hw)))
      fun r h c => ⟨((h.1.1 c).1 5).trans (array m (ok m hw) c hw), h.2.1 c⟩,
    (θ_run Cert.Reference2Ideal.defs _ _).mono (fun r h c => by
      obtain ⟨e0, e1, e2, e3, e4, e5, e6⟩ := he c
      exact ⟨(h c).1.trans (stages m c hw _ _ _ _ _ _ _ e0 e1 e2 e3 e4 e5 e6), (h c).2⟩)
      (Cert.Reference2Ideal.Value.run (F := Ideal) m' g')⟩

end Cert.Proof

end
-- ==== Proof.Norm.lean ====
/- The final norm: what a grid point writes, the result array, the reference and the claims. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.FfnMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem StableHlo

namespace Cert.Kernel3Ideal.Norm

open Cert.Kernel3Ideal Cert.Kernel3Ideal.Gen Cert.Experts

theorem pay1_val (x : Vec Ideal S512x2048 .f32) (g : Vec Ideal S1x2048 .f32) (r : Fin 512) (d : Fin 2048) :
    k0_pay1 x g (ix2 r d) = hid (fun k => x (ix2 r k)) (fun k => g (ix2 0 k)) d := by
  pointwise [k0_pay1]
  rfl

theorem zeros : (![0, 0] : Fin 2 → Nat) = fun _ => 0 := by funext a; fin_cases a <;> rfl

/-- A grid point writes its payload over the whole block. -/
theorem out_eq (x : Vec Ideal S512x2048 .f32) (g : Vec Ideal S1x2048 .f32) : out0_2 x g = k0_pay1 x g := by
  unfold out0_2
  rw [View.canon_unit_zero zeros, View.ld_unit_zero zeros, View.ld_unit_zero zeros]

variable (m : (ℓ : Loc nD τ sig) → Buf (Elt Ideal) ℓ) (c : Dev nD) (t : Fin cfg0.N)

theorem host_gain (k : Fin 2048) : V m c main_v0 (ix2 0 k) = m (c, Proc.tc.devRef main_arg1) (ix1 k) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise

theorem lt_N : t.val < 32 := Nat.lt_of_lt_of_eq t.isLt (by decide)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- A row of a grid point's block, in the whole. -/
def row (r : Fin 512) : Fin 16384 := ⟨512 * t.val + r.val, by have := lt_N t; omega⟩

theorem read0 (r : Fin 512) (k : Fin 2048) : iblk m c 0 t (ix2 r k) = V m c main_arg0 (ix2 (row t r) k) := by
  unfold row
  blk_ext [iblk, idx0 t]
theorem read1 (k : Fin 2048) : iblk m c 1 t (ix2 0 k) = V m c main_v0 (ix2 0 k) := by
  blk_ext [iblk, idx1 t]

/-- The result array. -/
def G : Vec Ideal S16384x2048 .f32 := fun ix =>
  hid (fun k => m (c, Proc.tc.devRef main_arg0) (ix2 (ix 0) k)) (fun k => m (c, Proc.tc.devRef main_arg1) (ix1 k)) (ix 1)

theorem out_val (r : Fin 512) (d : Fin 2048) : out0_2 (iblk m c 0 t) (iblk m c 1 t) (ix2 r d) = G m c (ix2 (row t r) d) := by
  rw [out_eq]
  refine (pay1_val _ _ r d).trans ?_
  have e1 : ∀ k, iblk m c 1 t (ix2 0 k) = m (c, Proc.tc.devRef main_arg1) (ix1 k) := fun k => (read1 m c t k).trans (host_gain m c k)
  simp only [read0, e1, V_main_arg0]
  rfl

theorem array : (dats m 0 c).arrAt 2 cfg0.N = G m c := by
  refine (dats m 0 c).arrAt_eq_of_covers 2 _ (by decide +kernel) fun t hf y => ?_
  blk_simp
  rw [after0_2]
  change S512x2048.Idx at y
  obtain ⟨r, d, rfl⟩ : ∃ r d, y = ix2 r d := ⟨y 0, y 1, eq_ix2 y⟩
  refine (out_val m c t r d).trans ?_
  have he : (win0_2.blk t).view.emb (ix2 r d : S512x2048.Idx) = (ix2 (row t r) d : S16384x2048.Idx) := by
    unfold row
    blk_ext [idx2 t]
  exact (congrArg (G m c) he).symm

end Cert.Kernel3Ideal.Norm

namespace Cert.Reference3Ideal.Norm

open Cert.Reference3Ideal Cert.Reference3Ideal.Gen Cert.Experts

/-- The reference's result. -/
def normed (x : Vec Ideal S16384x2048 .f32) (g : Vec Ideal S2048 .f32) : FVec Ideal S16384x2048 .f32 := mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem normed_val (x : Vec Ideal S16384x2048 .f32) (g : Vec Ideal S2048 .f32) (r : Fin 16384) (d : Fin 2048) :
    normed x g (ix2 r d) = hid (fun k => x (ix2 r k)) (fun k => g (ix1 k)) d := by
  pointwise [normed]
  rfl

end Cert.Reference3Ideal.Norm

namespace Cert.Proof

open Cert.Kernel3Ideal.Norm

theorem frame_p3 : Cert.quiescent_Kernel3 := fun m ρ _ => Cert.Kernel3.Gen.frame (F := Bits) m ρ
theorem frame_pi3 : Cert.quiescent_Kernel3Ideal := fun m ρ _ => Cert.Kernel3Ideal.Gen.frame (F := Ideal) m ρ
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference's result, from the kernel's arguments. -/
theorem normed_eq (m : (ℓ : Loc Cert.Kernel3Ideal.nD Cert.Kernel3Ideal.τ Cert.Kernel3Ideal.sig) → Buf (Elt Ideal) ℓ) (c : Dev Cert.Kernel3Ideal.nD)
    (x : Vec Ideal Cert.Reference3Ideal.S16384x2048 .f32) (g : Vec Ideal Cert.Reference3Ideal.S2048 .f32)
    (e0 : x = m (c, Proc.tc.devRef Cert.Kernel3Ideal.main_arg0)) (e1 : g = m (c, Proc.tc.devRef Cert.Kernel3Ideal.main_arg1)) :
    Cert.Reference3Ideal.Norm.normed x g = G m c := by
  subst e0 e1
  funext ix
  rw [eq_ix2 ix]
  exact Cert.Reference3Ideal.Norm.normed_val _ _ _ _

theorem algebraic3 : Cert.algebraic_Kernel3Ideal_Reference3Ideal := fun m g m' g' _ he =>
  ⟨fun c => G m c,
    (θ_run Cert.Kernel3Ideal.defs _ _).mono (fun r h c => ⟨(h c).1.trans (array m c), (h c).2⟩)
      (Cert.Kernel3Ideal.Value.run_blocks (F := Ideal) m g),
    (θ_run Cert.Reference3Ideal.defs _ _).mono (fun r h c => ⟨(h c).1.trans (normed_eq m c _ _ (he c).1 (he c).2), (h c).2⟩)
      (Cert.Reference3Ideal.Value.run (F := Ideal) m' g')⟩

end Cert.Proof

end
-- ==== Proof.Mix.lean ====
/- The output projection: what a grid point writes, the result array, the reference and the claims. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem StableHlo

namespace Cert.Mix

/-- The three mixers' outputs side by side, at a token and a column. -/
def mix (oa : Fin 16384 → Fin 4 → Fin 128 → EReal) (ob : Fin 16384 → Fin 8 → Fin 64 → EReal) (oc os ow : Fin 16384 → Fin 16 → Fin 64 → EReal)
    (s : Fin 16384) (k : Fin 2048) : EReal :=
  if k.val < 512 then oa s ⟨k.val / 128 % 4, by omega⟩ ⟨k.val % 128, by omega⟩
  else if k.val < 1024 then ob s ⟨k.val / 64 % 8, by omega⟩ ⟨k.val % 64, by omega⟩
  else oc s ⟨k.val / 64 % 16, by omega⟩ ⟨k.val % 64, by omega⟩ + os s ⟨k.val / 64 % 16, by omega⟩ ⟨k.val % 64, by omega⟩
    + ow s ⟨k.val / 64 % 16, by omega⟩ ⟨k.val % 64, by omega⟩

/-- The projection's result: the residual plus the mixers' outputs against the weights. -/
def proj (x w : Fin 2048 → EReal) (r : EReal) : EReal := r + ∑ k : Fin 2048, x k * w k

/-- The column that a lane of the packed rows holds: the third mixer's heads lie in pairs, a head beside the one eight further. -/
def lane (l : Fin 2048) : Fin 2048 :=
  ⟨if l.val < 1024 then l.val else 1024 + 512 * (l.val / 64 % 2) + 64 * (l.val / 128 % 8) + l.val % 64, by split <;> omega⟩

/-- The lane that holds a column. -/
def unlane (k : Fin 2048) : Fin 2048 :=
  ⟨if k.val < 1024 then k.val else 1024 + 128 * (k.val / 64 % 8) + 64 * (k.val / 512 % 2) + k.val % 64, by split <;> omega⟩

/-- The lanes are the columns in another order. -/
def lanes : Fin 2048 ≃ Fin 2048 where
  toFun := lane
  invFun := unlane
  left_inv := by
    show ∀ l, unlane (lane l) = l
    decide +kernel
  right_inv := by
    show ∀ k, lane (unlane k) = k
    decide +kernel

end Cert.Mix

namespace Cert.Kernel4Ideal.Mix

open Cert.Kernel4Ideal Cert.Kernel4Ideal.Gen Cert.Mix

section
variable (x0 : Vec Ideal S512x2048 .f32) (x1 x2 : Vec Ideal S4x512x128 .bf16) (x3 x4 x5 : Vec Ideal S8x512x128 .bf16) (x6 : Vec Ideal S2048x2048 .bf16)

/-- The third mixer's share of one block of lanes. -/
def both (v0 v1 v2 : Vec Ideal S1x512x128 .bf16) : FVec Ideal S512x128 .bf16 := k0_pay14 v0 v1 v2

/-- The sixteen blocks of lanes of the packed rows. -/
def part : Fin 16 → FVec Ideal S512x128 .bf16 := ![
  k0_pay3 (View.ld x1 r0_0), k0_pay3 (View.ld x1 r0_1), k0_pay3 (View.ld x1 r0_2), k0_pay3 (View.ld x1 r0_3),
  k0_pay3 (View.ld x2 r0_0), k0_pay3 (View.ld x2 r0_1), k0_pay3 (View.ld x2 r0_2), k0_pay3 (View.ld x2 r0_3),
  both (View.ld x3 r0_4) (View.ld x4 r0_4) (View.ld x5 r0_4), both (View.ld x3 r0_5) (View.ld x4 r0_5) (View.ld x5 r0_5),
  both (View.ld x3 r0_6) (View.ld x4 r0_6) (View.ld x5 r0_6), both (View.ld x3 r0_7) (View.ld x4 r0_7) (View.ld x5 r0_7),
  both (View.ld x3 r0_8) (View.ld x4 r0_8) (View.ld x5 r0_8), both (View.ld x3 r0_9) (View.ld x4 r0_9) (View.ld x5 r0_9),
  both (View.ld x3 r0_10) (View.ld x4 r0_10) (View.ld x5 r0_10), both (View.ld x3 r0_11) (View.ld x4 r0_11) (View.ld x5 r0_11)]

theorem packed_eq : k0_pay39 x0 x1 x2 x3 x4 x5 x6
    = concatenate S512x2048 1 (List.ofFn fun n : Fin 16 => ⟨S512x128, part x1 x2 x3 x4 x5 n⟩) concatenates_S512x128_S512x128_S512x128_S512x128_S512x128_S512x128_S512x128_S512x128_S512x128_S512x128_S512x128_S512x128_S512x128_S512x128_S512x128_S512x128_S512x2048_d1 := rfl

theorem pay3_val (v : Vec Ideal S1x512x128 .bf16) (r : Fin 512) (q : Fin 128) : k0_pay3 v (ix2 r q) = v (ix3 0 r q) := by
  pointwise [k0_pay3]

theorem both_val (v0 v1 v2 : Vec Ideal S1x512x128 .bf16) (r : Fin 512) (q : Fin 128) :
    both v0 v1 v2 (ix2 r q) = v0 (ix3 0 r q) + v1 (ix3 0 r q) + v2 (ix3 0 r q) := by
  pointwise [both, k0_pay14]

/-- One lane of a packed row. -/
def laneOf (n : Fin 16) (r : Fin 512) (q : Fin 128) : EReal :=
  if n.val < 4 then x1 (ix3 ⟨n.val % 4, by omega⟩ r q) else if n.val < 8 then x2 (ix3 ⟨n.val % 4, by omega⟩ r q)
  else x3 (ix3 ⟨n.val % 8, by omega⟩ r q) + x4 (ix3 ⟨n.val % 8, by omega⟩ r q) + x5 (ix3 ⟨n.val % 8, by omega⟩ r q)

theorem ld4 (x : Vec Ideal S4x512x128 .bf16) (n : ℕ) (hn : n < 4) (inb) (r : Fin 512) (q : Fin 128) :
    View.ld x (Rect.unit (s := S4x512x128) ![n, 0, 0] S1x512x128.size inb) (ix3 0 r q) = x (ix3 ⟨n, hn⟩ r q) := by
  rw [View.ld_apply]
  refine congrArg x (funext fun a => Fin.ext ?_)
  fin_cases a
  · show n + 1 * 0 = n; omega
  · show 0 + 1 * r.val = r.val; omega
  · show 0 + 1 * q.val = q.val; omega
theorem ld8 (x : Vec Ideal S8x512x128 .bf16) (n : ℕ) (hn : n < 8) (inb) (r : Fin 512) (q : Fin 128) :
    View.ld x (Rect.unit (s := S8x512x128) ![n, 0, 0] S1x512x128.size inb) (ix3 0 r q) = x (ix3 ⟨n, hn⟩ r q) := by
  rw [View.ld_apply]
  refine congrArg x (funext fun a => Fin.ext ?_)
  fin_cases a
  · show n + 1 * 0 = n; omega
  · show 0 + 1 * r.val = r.val; omega
  · show 0 + 1 * q.val = q.val; omega

theorem part_val (n : Fin 16) (r : Fin 512) (q : Fin 128) : part x1 x2 x3 x4 x5 n (ix2 r q) = laneOf x1 x2 x3 x4 x5 n r q := by
  fin_cases n
  all_goals first
    | exact (pay3_val _ r q).trans (ld4 _ _ (by decide) _ r q)
    | exact (both_val _ _ _ r q).trans (congrArg₂ (· + ·) (congrArg₂ (· + ·) (ld8 _ _ (by decide) _ r q) (ld8 _ _ (by decide) _ r q)) (ld8 _ _ (by decide) _ r q))

theorem packed_val (r : Fin 512) (l : Fin 2048) :
    k0_pay39 x0 x1 x2 x3 x4 x5 x6 (ix2 r l) = laneOf x1 x2 x3 x4 x5 ⟨l.val / 128, by omega⟩ r ⟨l.val % 128, by omega⟩ := by
  rw [packed_eq]
  refine (concatenate_ofFn_apply (t := S512x2048) (s₁ := S512x128) 1 _ _ rfl 128 rfl (ix2 r l) (⟨l.val / 128, by have := l.isLt; omega⟩ : Fin 16) rfl (ix2 r (⟨l.val % 128, by omega⟩ : Fin 128) : S512x128.Idx) rfl ?_).trans (part_val _ _ _ _ _ _ _ _)
  intro b hb
  fin_cases b
  · rfl
  · exact absurd rfl hb

theorem pay1_val (p : FVec Ideal S512x2048 .bf16) (x : Vec Ideal S512x512 .f32) (w : Vec Ideal S2048x512 .bf16) (r d : Fin 512) :
    k0_pay1 p x w (ix2 r d) = x (ix2 r d) + ∑ l : Fin 2048, p (ix2 r l) * w (ix2 l d) := by
  pointwise [k0_pay1]

/-- What a grid point writes, at a row and a column. -/
def E : Vec Ideal S512x2048 .f32 := fun ix => x0 ix + ∑ l : Fin 2048, k0_pay39 x0 x1 x2 x3 x4 x5 x6 (ix2 (ix 0) l) * x6 (ix2 l (ix 1))

theorem piece (n : ℕ) (hn : n + 512 ≤ 2048) (inb) (inb') (y : S512x512.Idx) :
    k0_pay1 (k0_pay39 x0 x1 x2 x3 x4 x5 x6) (View.ld x0 (Rect.unit (s := S512x2048) ![0, n] S512x512.size inb))
      (View.ld x6 (Rect.unit (s := S2048x2048) ![0, n] S2048x512.size inb')) y
      = E x0 x1 x2 x3 x4 x5 x6 ((Rect.unit (s := S512x2048) ![0, n] S512x512.size inb).emb y) := by
  rw [eq_ix2 y]
  refine (pay1_val _ _ _ _ _).trans ?_
  unfold E
  refine congrArg₂ (· + ·) rfl (Finset.sum_congr rfl fun l _ => congrArg₂ (· * ·) (congrArg _ ?_) ?_)
  · funext a
    refine Fin.ext ?_
    fin_cases a
    · show (y 0).val = 0 + 1 * (y 0).val; omega
    · rfl
  · rw [View.ld_apply]
    refine congrArg x6 (funext fun a => Fin.ext ?_)
    fin_cases a
    · show 0 + 1 * l.val = l.val; omega
    · rfl

theorem out_eq (y : S512x2048.Idx) : out0_7 x0 x1 x2 x3 x4 x5 x6 y = E x0 x1 x2 x3 x4 x5 x6 y := by
  refine View.canon_apply_of_pieces (E x0 x1 x2 x3 x4 x5 x6) _ ?_ y (cover0_7 _ _ _ _ y)
  intro pc hpc
  rcases List.mem_cons.mp hpc with rfl | hpc
  · exact piece x0 x1 x2 x3 x4 x5 x6 1536 (by omega) _ _
  rcases List.mem_cons.mp hpc with rfl | hpc
  · exact piece x0 x1 x2 x3 x4 x5 x6 1024 (by omega) _ _
  rcases List.mem_cons.mp hpc with rfl | hpc
  · exact piece x0 x1 x2 x3 x4 x5 x6 512 (by omega) _ _
  rcases List.mem_cons.mp hpc with rfl | hpc
  · exact piece x0 x1 x2 x3 x4 x5 x6 0 (by omega) _ _
  nomatch hpc

end

/-! ## The arrays as launched -/

section
variable (m : (ℓ : Loc nD τ sig) → Buf (Elt Ideal) ℓ) (c : Dev nD)

theorem host_a (b : Fin 4) (s : Fin 16384) (q : Fin 128) : V m c main_v1 (ix3 b s q) = m (c, Proc.tc.devRef main_arg1) (ix3 s b q) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_b (b : Fin 4) (s : Fin 16384) (q : Fin 128) :
    V m c main_v4 (ix3 b s q) = m (c, Proc.tc.devRef main_arg2) (ix3 s ⟨b.val * 2 + q.val / 64, by omega⟩ ⟨q.val % 64, by omega⟩) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_c (b : Fin 8) (s : Fin 16384) (q : Fin 128) :
    V m c main_v8 (ix3 b s q) = m (c, Proc.tc.devRef main_arg3) (ix3 s ⟨q.val / 64 * 8 + b.val, by omega⟩ ⟨q.val % 64, by omega⟩) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_s (b : Fin 8) (s : Fin 16384) (q : Fin 128) :
    V m c main_v12 (ix3 b s q) = m (c, Proc.tc.devRef main_arg4) (ix3 s ⟨q.val / 64 * 8 + b.val, by omega⟩ ⟨q.val % 64, by omega⟩) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_w (b : Fin 8) (s : Fin 16384) (q : Fin 128) :
    V m c main_v16 (ix3 b s q) = m (c, Proc.tc.devRef main_arg5) (ix3 s ⟨q.val / 64 * 8 + b.val, by omega⟩ ⟨q.val % 64, by omega⟩) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
theorem host_o (l d : Fin 2048) : V m c main_v23 (ix2 l d) = m (c, Proc.tc.devRef main_arg6) (ix2 (lane l) d) := by
  unfold_abbrev_sides
  simp only [hostOps0, List.flatten_cons, List.flatten_nil, List.append_nil, List.cons_append, List.nil_append, TRef.nullary, TRef.unary, TRef.binary, TRef.ternary, TRef.toBuf, TRef.ofBuf, cast_eq]
  after_results_simp
  pointwise
  after_results_simp
  pointwise
  by_cases h : l.val < 1024
  · rw [dif_pos h]
    exact congrArg (fun i => m (c, Proc.tc.devRef main_arg6) (ix2 i d)) (Fin.ext (by dsimp only [lane]; rw [if_pos h]))
  · rw [dif_neg h]
    exact congrArg (fun i => m (c, Proc.tc.devRef main_arg6) (ix2 i d)) (Fin.ext (by dsimp only [lane]; rw [if_neg h]; omega))

end

/-- A lane of a packed row is the mixers' entry at the column it holds. -/
theorem lane_val (x1 x2 : Vec Ideal S4x512x128 .bf16) (x3 x4 x5 : Vec Ideal S8x512x128 .bf16)
    (oa : Fin 16384 → Fin 4 → Fin 128 → EReal) (ob : Fin 16384 → Fin 8 → Fin 64 → EReal) (oc os ow : Fin 16384 → Fin 16 → Fin 64 → EReal)
    (r : Fin 512) (s : Fin 16384) (h1 : ∀ b q, x1 (ix3 b r q) = oa s b q)
    (h2 : ∀ (b : Fin 4) (q : Fin 128), x2 (ix3 b r q) = ob s ⟨b.val * 2 + q.val / 64, by omega⟩ ⟨q.val % 64, by omega⟩)
    (h3 : ∀ (b : Fin 8) (q : Fin 128), x3 (ix3 b r q) = oc s ⟨q.val / 64 * 8 + b.val, by omega⟩ ⟨q.val % 64, by omega⟩)
    (h4 : ∀ (b : Fin 8) (q : Fin 128), x4 (ix3 b r q) = os s ⟨q.val / 64 * 8 + b.val, by omega⟩ ⟨q.val % 64, by omega⟩)
    (h5 : ∀ (b : Fin 8) (q : Fin 128), x5 (ix3 b r q) = ow s ⟨q.val / 64 * 8 + b.val, by omega⟩ ⟨q.val % 64, by omega⟩) (l : Fin 2048) :
    laneOf x1 x2 x3 x4 x5 ⟨l.val / 128, by omega⟩ r ⟨l.val % 128, by omega⟩ = mix oa ob oc os ow s (lane l) := by
  unfold laneOf mix
  simp only [h1, h2, h3, h4, h5]
  by_cases ha : l.val < 512
  · have e : lane l = l := Fin.ext (by dsimp only [lane]; rw [if_pos (by omega)])
    rw [if_pos (by omega), e, if_pos ha]
  by_cases hb : l.val < 1024
  · have e : lane l = l := Fin.ext (by dsimp only [lane]; rw [if_pos hb])
    rw [if_neg (by omega), if_pos (by omega), e, if_neg ha, if_pos hb]
    exact congrArg₂ (ob s) (Fin.ext (by dsimp only; omega)) (Fin.ext (by dsimp only; omega))
  · have e : (lane l).val = 1024 + 512 * (l.val / 64 % 2) + 64 * (l.val / 128 % 8) + l.val % 64 := by dsimp only [lane]; rw [if_neg hb]
    have c1 : ∀ f : Fin 16 → Fin 64 → EReal, f ⟨l.val % 128 / 64 * 8 + l.val / 128 % 8, by omega⟩ ⟨l.val % 128 % 64, by omega⟩
        = f ⟨(lane l).val / 64 % 16, by omega⟩ ⟨(lane l).val % 64, by omega⟩ := fun f =>
      congrArg₂ f (Fin.ext (by dsimp only; omega)) (Fin.ext (by dsimp only; omega))
    rw [if_neg (by omega), if_neg (by omega), if_neg (by omega), if_neg (by omega), c1 (oc s), c1 (os s), c1 (ow s)]

/-! ## The result array -/

variable (m : (ℓ : Loc nD τ sig) → Buf (Elt Ideal) ℓ) (c : Dev nD) (t : Fin cfg0.N)

theorem lt_N : t.val < 32 := Nat.lt_of_lt_of_eq t.isLt (by decide)

theorem idx0 : ∀ t : Fin cfg0.N, win0_0.index t = ![t.val, 0] := (by decide +kernel : ∀ t : Fin grid0.N, win0_0.index t = ![t.val, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, t.val, 0] := (by decide +kernel : ∀ t : Fin grid0.N, win0_3.index t = ![0, t.val, 0])
theorem idx4 : ∀ t : Fin cfg0.N, win0_4.index t = ![0, t.val, 0] := (by decide +kernel : ∀ t : Fin grid0.N, win0_4.index t = ![0, t.val, 0])
theorem idx5 : ∀ t : Fin cfg0.N, win0_5.index t = ![0, t.val, 0] := (by decide +kernel : ∀ t : Fin grid0.N, win0_5.index t = ![0, t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

/-- A row of a grid point's block, in the whole. -/
def row (r : Fin 512) : Fin 16384 := ⟨512 * t.val + r.val, by have := lt_N t; omega⟩

theorem read0 (r : Fin 512) (d : Fin 2048) : iblk m c 0 t (ix2 r d) = V m c main_arg0 (ix2 (row t r) d) := by
  unfold row
  blk_ext [iblk, idx0 t]
theorem read1 (b : Fin 4) (r : Fin 512) (q : Fin 128) : iblk m c 1 t (ix3 b r q) = V m c main_v1 (ix3 b (row t r) q) := by
  unfold row
  blk_ext [iblk, idx1 t]
theorem read2 (b : Fin 4) (r : Fin 512) (q : Fin 128) : iblk m c 2 t (ix3 b r q) = V m c main_v4 (ix3 b (row t r) q) := by
  unfold row
  blk_ext [iblk, idx2 t]
theorem read3 (b : Fin 8) (r : Fin 512) (q : Fin 128) : iblk m c 3 t (ix3 b r q) = V m c main_v8 (ix3 b (row t r) q) := by
  unfold row
  blk_ext [iblk, idx3 t]
theorem read4 (b : Fin 8) (r : Fin 512) (q : Fin 128) : iblk m c 4 t (ix3 b r q) = V m c main_v12 (ix3 b (row t r) q) := by
  unfold row
  blk_ext [iblk, idx4 t]
theorem read5 (b : Fin 8) (r : Fin 512) (q : Fin 128) : iblk m c 5 t (ix3 b r q) = V m c main_v16 (ix3 b (row t r) q) := by
  unfold row
  blk_ext [iblk, idx5 t]
theorem read6 (l d : Fin 2048) : iblk m c 6 t (ix2 l d) = V m c main_v23 (ix2 l d) := by
  blk_ext [iblk, idx6 t]

/-- The mixers' outputs side by side, from the arguments. -/
def mixed (s : Fin 16384) (k : Fin 2048) : EReal :=
  mix (fun s h e => m (c, Proc.tc.devRef main_arg1) (ix3 s h e)) (fun s h e => m (c, Proc.tc.devRef main_arg2) (ix3 s h e))
    (fun s h e => m (c, Proc.tc.devRef main_arg3) (ix3 s h e)) (fun s h e => m (c, Proc.tc.devRef main_arg4) (ix3 s h e))
    (fun s h e => m (c, Proc.tc.devRef main_arg5) (ix3 s h e)) s k

/-- The result array. -/
def G : Vec Ideal S16384x2048 .f32 := fun ix =>
  proj (mixed m c (ix 0)) (fun k => m (c, Proc.tc.devRef main_arg6) (ix2 k (ix 1))) (m (c, Proc.tc.devRef main_arg0) ix)

theorem out_val (r : Fin 512) (d : Fin 2048) :
    out0_7 (iblk m c 0 t) (iblk m c 1 t) (iblk m c 2 t) (iblk m c 3 t) (iblk m c 4 t) (iblk m c 5 t) (iblk m c 6 t) (ix2 r d) = G m c (ix2 (row t r) d) := by
  refine (out_eq _ _ _ _ _ _ _ _).trans ?_
  unfold E G proj
  refine congrArg₂ (· + ·) ((read0 m c t r d).trans (by rw [V_main_arg0])) ?_
  refine Eq.trans (Finset.sum_congr rfl fun l _ => ?_)
    (lanes.sum_comp fun k => mixed m c (row t r) k * (fun i => m (c, Proc.tc.devRef main_arg6) i : S2048x2048.Idx → EReal) (ix2 k d))
  refine congrArg₂ (· * ·) ((packed_val _ _ _ _ _ _ _ r l).trans ?_) ((read6 m c t l d).trans (host_o m c l d))
  exact lane_val _ _ _ _ _ _ _ _ _ _ r (row t r) (fun b q => (read1 m c t b r q).trans (host_a m c b _ q))
    (fun b q => (read2 m c t b r q).trans (host_b m c b _ q)) (fun b q => (read3 m c t b r q).trans (host_c m c b _ q))
    (fun b q => (read4 m c t b r q).trans (host_s m c b _ q)) (fun b q => (read5 m c t b r q).trans (host_w m c b _ q)) l

theorem array : (dats m 0 c).arrAt 7 cfg0.N = G m c := by
  refine (dats m 0 c).arrAt_eq_of_covers 7 _ (by decide +kernel) fun t hf y => ?_
  blk_simp
  rw [after0_7]
  change S512x2048.Idx at y
  obtain ⟨r, d, rfl⟩ : ∃ r d, y = ix2 r d := ⟨y 0, y 1, eq_ix2 y⟩
  refine (out_val m c t r d).trans ?_
  have he : (win0_7.blk t).view.emb (ix2 r d : S512x2048.Idx) = (ix2 (row t r) d : S16384x2048.Idx) := by
    unfold row
    blk_ext [idx7 t]
  exact (congrArg (G m c) he).symm

end Cert.Kernel4Ideal.Mix

namespace Cert.Reference4Ideal.Mix

open Cert.Reference4Ideal Cert.Reference4Ideal.Gen Cert.Mix

/-- The reference's rows. -/
def rows (a : Vec Ideal S16384x4x128 .f32) (b : Vec Ideal S16384x8x64 .f32) (o s w : Vec Ideal S16384x16x64 .f32) : FVec Ideal S16384x2048 .f32 :=
  concatenate S16384x2048 1 [⟨S16384x512, shapeCast _ a shapeCasts_S16384x4x128_S16384x512⟩, ⟨S16384x512, shapeCast _ b shapeCasts_S16384x8x64_S16384x512⟩, ⟨S16384x1024, shapeCast _ (addf (addf o s) w) shapeCasts_S16384x16x64_S16384x1024⟩] concatenates_S16384x512_S16384x512_S16384x1024_S16384x2048_d1

/-- The reference's result. -/
def out (x : Vec Ideal S16384x2048 .f32) (a : Vec Ideal S16384x4x128 .f32) (b : Vec Ideal S16384x8x64 .f32) (o s w : Vec Ideal S16384x16x64 .f32)
    (p : Vec Ideal S2048x2048 .f32) : FVec Ideal S16384x2048 .f32 :=
  addf x (Host.dotGeneral (φ₁ := .f32) (φ₂ := .f32) dot_S16384x2048_S2048x2048_S16384x2048_1_0_0_1_n_n none (rows a b o s w) p)

theorem rows_val (a : Vec Ideal S16384x4x128 .f32) (b : Vec Ideal S16384x8x64 .f32) (o s w : Vec Ideal S16384x16x64 .f32) (r : Fin 16384) (k : Fin 2048) :
    rows a b o s w (ix2 r k) = mix (fun r h e => a (ix3 r h e)) (fun r h e => b (ix3 r h e)) (fun r h e => o (ix3 r h e)) (fun r h e => s (ix3 r h e)) (fun r h e => w (ix3 r h e)) r k := by
  unfold mix
  pointwise [rows]
  by_cases h1 : k.val < 512
  · rw [dif_pos h1, if_pos h1]
    exact congrArg (fun i => a (ix3 r i _)) (Fin.ext (by dsimp only; omega))
  rw [dif_neg h1, if_neg h1]
  by_cases h2 : k.val < 1024
  · rw [dif_pos (by omega), if_pos h2]
    exact congrArg₂ (fun i e => b (ix3 r i e)) (Fin.ext (by dsimp only; omega)) (Fin.ext (by dsimp only; omega))
  rw [dif_neg (by omega), if_neg h2]
  have c1 : ∀ f : Vec Ideal S16384x16x64 .f32, f (ix3 r ⟨(k.val - 512 - 512) / 64, by omega⟩ ⟨(k.val - 512 - 512) % 64, by omega⟩)
      = f (ix3 r ⟨k.val / 64 % 16, by omega⟩ ⟨k.val % 64, by omega⟩) := fun f =>
    congrArg₂ (fun i e => f (ix3 r i e)) (Fin.ext (by dsimp only; omega)) (Fin.ext (by dsimp only; omega))
  exact congrArg₂ (· + ·) (congrArg₂ (· + ·) (c1 o) (c1 s)) (c1 w)

theorem out_val (x : Vec Ideal S16384x2048 .f32) (a : Vec Ideal S16384x4x128 .f32) (b : Vec Ideal S16384x8x64 .f32) (o s w : Vec Ideal S16384x16x64 .f32)
    (p : Vec Ideal S2048x2048 .f32) (r : Fin 16384) (d : Fin 2048) :
    out x a b o s w p (ix2 r d) = x (ix2 r d) + ∑ k : Fin 2048, rows a b o s w (ix2 r k) * p (ix2 k d) := by
  pointwise [out]

end Cert.Reference4Ideal.Mix

namespace Cert.Proof

open Cert.Kernel4Ideal.Mix

theorem frame_p4 : Cert.quiescent_Kernel4 := fun m ρ _ => Cert.Kernel4.Gen.frame (F := Bits) m ρ
theorem frame_pi4 : Cert.quiescent_Kernel4Ideal := fun m ρ _ => Cert.Kernel4Ideal.Gen.frame (F := Ideal) m ρ
theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference's result, from the kernel's arguments. -/
theorem mixed_eq (m : (ℓ : Loc Cert.Kernel4Ideal.nD Cert.Kernel4Ideal.τ Cert.Kernel4Ideal.sig) → Buf (Elt Ideal) ℓ) (c : Dev Cert.Kernel4Ideal.nD)
    (x : Vec Ideal Cert.Reference4Ideal.S16384x2048 .f32) (a : Vec Ideal Cert.Reference4Ideal.S16384x4x128 .f32)
    (b : Vec Ideal Cert.Reference4Ideal.S16384x8x64 .f32) (o s w : Vec Ideal Cert.Reference4Ideal.S16384x16x64 .f32)
    (p : Vec Ideal Cert.Reference4Ideal.S2048x2048 .f32)
    (e0 : x = m (c, Proc.tc.devRef Cert.Kernel4Ideal.main_arg0)) (e1 : a = m (c, Proc.tc.devRef Cert.Kernel4Ideal.main_arg1))
    (e2 : b = m (c, Proc.tc.devRef Cert.Kernel4Ideal.main_arg2)) (e3 : o = m (c, Proc.tc.devRef Cert.Kernel4Ideal.main_arg3))
    (e4 : s = m (c, Proc.tc.devRef Cert.Kernel4Ideal.main_arg4)) (e5 : w = m (c, Proc.tc.devRef Cert.Kernel4Ideal.main_arg5))
    (e6 : p = m (c, Proc.tc.devRef Cert.Kernel4Ideal.main_arg6)) :
    Cert.Reference4Ideal.Mix.out x a b o s w p = G m c := by
  subst e0 e1 e2 e3 e4 e5 e6
  funext ix
  rw [eq_ix2 ix]
  refine (Cert.Reference4Ideal.Mix.out_val _ _ _ _ _ _ _ _ _).trans (congrArg₂ (· + ·) rfl (Finset.sum_congr rfl fun k _ => ?_))
  exact congrArg₂ (· * ·) (Cert.Reference4Ideal.Mix.rows_val _ _ _ _ _ _ _) rfl

theorem algebraic4 : Cert.algebraic_Kernel4Ideal_Reference4Ideal := fun m g m' g' _ he =>
  ⟨fun c => G m c,
    (θ_run Cert.Kernel4Ideal.defs _ _).mono (fun r h c => ⟨(h c).1.trans (array m c), (h c).2⟩)
      (Cert.Kernel4Ideal.Value.run_blocks (F := Ideal) m g),
    (θ_run Cert.Reference4Ideal.defs _ _).mono (fun r h c => ⟨(h c).1.trans (mixed_eq m c _ _ _ _ _ _ _ (he c).1 (he c).2.1 (he c).2.2.1 (he c).2.2.2.1
        (he c).2.2.2.2.1 (he c).2.2.2.2.2.1 (he c).2.2.2.2.2.2), (h c).2⟩)
      (Cert.Reference4Ideal.Value.run (F := Ideal) m' g')⟩

end Cert.Proof

end
-- ==== Proof.lean ====
module

public import proofs.«01_k».proof.Proof.Claims
public import proofs.«01_k».proof.Proof.FfnClaims
public import proofs.«01_k».proof.Proof.Gen.Reference2Ideal.Run
public import proofs.«01_k».proof.Proof.Norm
public import proofs.«01_k».proof.Proof.Mix

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_experts.Gen.facts,
    frame_p, frame_pi, frame_pi_pre, frame_ri, frame_ri_pre, frame_p2, frame_pi2, frame_ri2, frame_ri2_pre,
    frame_p3, frame_pi3, frame_ri3, frame_p4, frame_pi4, frame_ri4,
    trivial, algebraic, trivial, algebraic2, trivial, algebraic3, trivial, algebraic4⟩

end Cert.Proof

end
